-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "scale" .bf16 0x3DB5#16 (((Real.sqrt 128)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v45) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x128x128 : Shape := ⟨4, ![1, 2048, 128, 128]⟩
abbrev S_ : Shape := ⟨0, ![]⟩

class Facts : Prop where
  bitsLt_bf16_f32 : FTy.bits .bf16 < FTy.bits .f32
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x128x128 : S_.BroadcastsInDim S1x2048x128x128 (![] : Fin 0 → Fin S1x2048x128x128.rank)
  reducesTo_S1x2048x128x128_S_d0_1_2_3 : S1x2048x128x128.ReducesTo [0, 1, 2, 3] S_

variable [Facts]

def fn {F : FTy → Type} [FloatOps F] (main_arg0 : FVec F S1x2048x1024 .bf16) (main_arg1 : FVec F S1024x1024 .bf16) (main_arg2 : FVec F S1x2048x128x128 .bf16) (main_arg3 : FVec F S1x2048x128x128 .bf16) (main_arg4 : FVec F S1024x1024 .bf16) : IVec S_ 1 :=
  let main_v0 : FVec F S1x2048x1024 .f32 := (extf .f32 · bitsLt_bf16_f32) main_arg0
  let main_v1 : FVec F S1x2048x1024 .f32 := Host.absf main_v0
  let main_cst : FVec F S_ .f32 := constant S_ .f32 0x7F800000#32
  let main_v2 : FVec F S1x2048x1024 .f32 := broadcastInDim S1x2048x1024 ![] bcast_S_S1x2048x1024 main_cst
  let main_v3 : IVec S1x2048x1024 1 := cmpf .olt main_v1 main_v2
  let main_c : IVec S_ 1 := constantI S_ 1 1#1
  let main_v4 : IVec S_ 1 := (fun x v => Host.reduce IntOp.andi x v reducesTo_S1x2048x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x2048x128x128 .f32 := (extf .f32 · bitsLt_bf16_f32) main_arg2
  let main_v12 : FVec F S1x2048x128x128 .f32 := Host.absf main_v11
  let main_cst_2 : FVec F S_ .f32 := constant S_ .f32 0x7F800000#32
  let main_v13 : FVec F S1x2048x128x128 .f32 := broadcastInDim S1x2048x128x128 ![] bcast_S_S1x2048x128x128 main_cst_2
  let main_v14 : IVec S1x2048x128x128 1 := cmpf .olt main_v12 main_v13
  let main_c_3 : IVec S_ 1 := constantI S_ 1 1#1
  let main_v15 : IVec S_ 1 := (fun x v => Host.reduce IntOp.andi x v reducesTo_S1x2048x128x128_S_d0_1_2_3 h_S_) main_v14 main_c_3
  let main_v16 : IVec S_ 1 := andi main_v10 main_v15
  main_v16
-- ==== Pre_finite_ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S_ : Shape := ⟨0, ![]⟩

class Facts : Prop where
  bitsLt_bf16_f32 : FTy.bits .bf16 < FTy.bits .f32
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x2048x128x128 : S_.BroadcastsInDim S1x2048x128x128 (![] : Fin 0 → Fin S1x2048x128x128.rank)
  reducesTo_S1x2048x128x128_S_d0_1_2_3 : S1x2048x128x128.ReducesTo [0, 1, 2, 3] S_

variable [Facts]

def fn {F : FTy → Type} [FloatOps F] (main_arg0 : FVec F S1x2048x1024 .bf16) (main_arg1 : FVec F S1024x16384 .bf16) (main_arg2 : FVec F S1x2048x128x128 .bf16) (main_arg3 : FVec F S1x2048x128x128 .bf16) (main_arg4 : FVec F S16384x1024 .bf16) : IVec S_ 1 :=
  let main_v0 : FVec F S1x2048x1024 .f32 := (extf .f32 · bitsLt_bf16_f32) main_arg0
  let main_v1 : FVec F S1x2048x1024 .f32 := Host.absf main_v0
  let main_cst : FVec F S_ .f32 := constant S_ .f32 0x7F800000#32
  let main_v2 : FVec F S1x2048x1024 .f32 := broadcastInDim S1x2048x1024 ![] bcast_S_S1x2048x1024 main_cst
  let main_v3 : IVec S1x2048x1024 1 := cmpf .olt main_v1 main_v2
  let main_c : IVec S_ 1 := constantI S_ 1 1#1
  let main_v4 : IVec S_ 1 := (fun x v => Host.reduce IntOp.andi x v reducesTo_S1x2048x1024_S_d0_1_2 h_S_) main_v3 main_c
  let main_v5 : FVec F S1024x16384 .f32 := (extf .f32 · bitsLt_bf16_f32) main_arg1
  let main_v6 : FVec F S1024x16384 .f32 := Host.absf main_v5
  let main_cst_0 : FVec F S_ .f32 := constant S_ .f32 0x7F800000#32
  let main_v7 : FVec F S1024x16384 .f32 := broadcastInDim S1024x16384 ![] bcast_S_S1024x16384 main_cst_0
  let main_v8 : IVec S1024x16384 1 := cmpf .olt main_v6 main_v7
  let main_c_1 : IVec S_ 1 := constantI S_ 1 1#1
  let main_v9 : IVec S_ 1 := (fun x v => Host.reduce IntOp.andi x v reducesTo_S1024x16384_S_d0_1 h_S_) main_v8 main_c_1
  let main_v10 : IVec S_ 1 := andi main_v4 main_v9
  let main_v11 : FVec F S1x2048x128x128 .f32 := (extf .f32 · bitsLt_bf16_f32) main_arg2
  let main_v12 : FVec F S1x2048x128x128 .f32 := Host.absf main_v11
  let main_cst_2 : FVec F S_ .f32 := constant S_ .f32 0x7F800000#32
  let main_v13 : FVec F S1x2048x128x128 .f32 := broadcastInDim S1x2048x128x128 ![] bcast_S_S1x2048x128x128 main_cst_2
  let main_v14 : IVec S1x2048x128x128 1 := cmpf .olt main_v12 main_v13
  let main_c_3 : IVec S_ 1 := constantI S_ 1 1#1
  let main_v15 : IVec S_ 1 := (fun x v => Host.reduce IntOp.andi x v reducesTo_S1x2048x128x128_S_d0_1_2_3 h_S_) main_v14 main_c_3
  let main_v16 : IVec S_ 1 := andi main_v10 main_v15
  main_v16
-- ==== Kernel.lean ====
abbrev S1x2048x1024 : Shape := ⟨3, ![1, 2048, 1024]⟩
abbrev S1024x1024 : Shape := ⟨2, ![1024, 1024]⟩
abbrev S1x2048x128x128 : Shape := ⟨4, ![1, 2048, 128, 128]⟩
abbrev S_ : Shape := ⟨0, ![]⟩
abbrev S2048x1024 : Shape := ⟨2, ![2048, 1024]⟩
abbrev S2048x128x128 : Shape := ⟨3, ![2048, 128, 128]⟩
abbrev S2048x8x128 : Shape := ⟨3, ![2048, 8, 128]⟩
abbrev S15x128x1024 : Shape := ⟨3, ![15, 128, 1024]⟩
abbrev S15 : Shape := ⟨1, ![15]⟩
abbrev S8 : Shape := ⟨1, ![8]⟩
abbrev S7 : Shape := ⟨1, ![7]⟩
abbrev S128x1024 : Shape := ⟨2, ![128, 1024]⟩
abbrev S128x384 : Shape := ⟨2, ![128, 384]⟩
abbrev S128x128 : Shape := ⟨2, ![128, 128]⟩
abbrev S384x128 : Shape := ⟨2, ![384, 128]⟩
abbrev S128 : Shape := ⟨1, ![128]⟩
abbrev S128x1 : Shape := ⟨2, ![128, 1]⟩
abbrev S1x128x1024 : Shape := ⟨3, ![1, 128, 1024]⟩
abbrev S1 : Shape := ⟨1, ![1]⟩

abbrev nBuf : Space → Nat
  | .hbm => 38
  | .vmem => 8
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1x2048x128x128, .bf16⟩
  | .hbm, ⟨3, _⟩ => ⟨S1x2048x128x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x1024, .bf16⟩
  | .hbm, ⟨12, _⟩ => ⟨S2048x128x128, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S2048x8x128, .bf16⟩
  | .hbm, ⟨23, _⟩ => ⟨S2048x128x128, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2048x8x128, .bf16⟩
  | .hbm, ⟨34, _⟩ => ⟨S2048x1024, .bf16⟩
  | .hbm, ⟨35, _⟩ => ⟨S2048x1024, .bf16⟩
  | .hbm, ⟨36, _⟩ => ⟨S2048x1024, .bf16⟩
  | .hbm, ⟨37, _⟩ => ⟨S1x2048x1024, .bf16⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S2048x1024, .bf16⟩
  | .local _ .vmem, ⟨6, _⟩ => ⟨S15x128x1024, .bf16⟩
  | .local _ .vmem, ⟨7, _⟩ => ⟨S15x128x1024, .bf16⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v13 : BitVec 32 := Scalar.addi v2 c32_i32
  let c16_i32_10 : BitVec 32 := 16#32
  let v14 : BitVec 32 := Scalar.remsi v13 c16_i32_10
  let c128_i32 : BitVec 32 := 128#32
  let v15 : BitVec 32 := Scalar.muli v14 c128_i32
  let v16 : Index := Scalar.indexCast v15
  let c0 : Index := 0#32
  ![v16.toNat, 0]
def k0_mult1 (d0 : Dev nD) : BitVec 32 :=
  let c1664_i32 : BitVec 32 := 1664#32
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v13 : BitVec 32 := Scalar.addi v2 c32_i32
  let c16_i32_10 : BitVec 32 := 16#32
  let v14 : BitVec 32 := Scalar.remsi v13 c16_i32_10
  let c128_i32 : BitVec 32 := 128#32
  let v15 : BitVec 32 := Scalar.muli v14 c128_i32
  let c128_i32_13 : BitVec 32 := 128#32
  let v23 : BitVec 32 := Scalar.subi v15 c128_i32_13
  let v24 : BitVec 32 := Scalar.maxsi c0_i32_14 v23
  let v25 : BitVec 32 := Scalar.minsi c1664_i32 v24
  v25
def k0_off2 (d0 : Dev nD) : Fin 2 → Nat :=
  let c1664_i32 : BitVec 32 := 1664#32
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v13 : BitVec 32 := Scalar.addi v2 c32_i32
  let c16_i32_10 : BitVec 32 := 16#32
  let v14 : BitVec 32 := Scalar.remsi v13 c16_i32_10
  let c128_i32 : BitVec 32 := 128#32
  let v15 : BitVec 32 := Scalar.muli v14 c128_i32
  let c128_i32_13 : BitVec 32 := 128#32
  let v23 : BitVec 32 := Scalar.subi v15 c128_i32_13
  let v24 : BitVec 32 := Scalar.maxsi c0_i32_14 v23
  let v25 : BitVec 32 := Scalar.minsi c1664_i32 v24
  let v26 : BitVec 32 := v25
  let v42 : Index := Scalar.indexCast v26
  let c0_18 : Index := 0#32
  ![v42.toNat, 0]
def k0_off3 (d0 : Dev nD) : Fin 2 → Nat :=
  let c1664_i32 : BitVec 32 := 1664#32
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v13 : BitVec 32 := Scalar.addi v2 c32_i32
  let c16_i32_10 : BitVec 32 := 16#32
  let v14 : BitVec 32 := Scalar.remsi v13 c16_i32_10
  let c128_i32 : BitVec 32 := 128#32
  let v15 : BitVec 32 := Scalar.muli v14 c128_i32
  let c128_i32_13 : BitVec 32 := 128#32
  let v23 : BitVec 32 := Scalar.subi v15 c128_i32_13
  let v24 : BitVec 32 := Scalar.maxsi c0_i32_14 v23
  let v25 : BitVec 32 := Scalar.minsi c1664_i32 v24
  let v26 : BitVec 32 := v25
  let v64 : Index := Scalar.indexCast v26
  let c128 : Index := 128#32
  ![v64.toNat, 128]
def k0_off4 (d0 : Dev nD) : Fin 2 → Nat :=
  let c1664_i32 : BitVec 32 := 1664#32
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v13 : BitVec 32 := Scalar.addi v2 c32_i32
  let c16_i32_10 : BitVec 32 := 16#32
  let v14 : BitVec 32 := Scalar.remsi v13 c16_i32_10
  let c128_i32 : BitVec 32 := 128#32
  let v15 : BitVec 32 := Scalar.muli v14 c128_i32
  let c128_i32_13 : BitVec 32 := 128#32
  let v23 : BitVec 32 := Scalar.subi v15 c128_i32_13
  let v24 : BitVec 32 := Scalar.maxsi c0_i32_14 v23
  let v25 : BitVec 32 := Scalar.minsi c1664_i32 v24
  let v26 : BitVec 32 := v25
  let v86 : Index := Scalar.indexCast v26
  let c256 : Index := 256#32
  ![v86.toNat, 256]
def k0_off5 (d0 : Dev nD) : Fin 2 → Nat :=
  let c1664_i32 : BitVec 32 := 1664#32
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v13 : BitVec 32 := Scalar.addi v2 c32_i32
  let c16_i32_10 : BitVec 32 := 16#32
  let v14 : BitVec 32 := Scalar.remsi v13 c16_i32_10
  let c128_i32 : BitVec 32 := 128#32
  let v15 : BitVec 32 := Scalar.muli v14 c128_i32
  let c128_i32_13 : BitVec 32 := 128#32
  let v23 : BitVec 32 := Scalar.subi v15 c128_i32_13
  let v24 : BitVec 32 := Scalar.maxsi c0_i32_14 v23
  let v25 : BitVec 32 := Scalar.minsi c1664_i32 v24
  let v26 : BitVec 32 := v25
  let v108 : Index := Scalar.indexCast v26
  let c384 : Index := 384#32
  ![v108.toNat, 384]
def k0_off6 (d0 : Dev nD) : Fin 2 → Nat :=
  let c1664_i32 : BitVec 32 := 1664#32
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v13 : BitVec 32 := Scalar.addi v2 c32_i32
  let c16_i32_10 : BitVec 32 := 16#32
  let v14 : BitVec 32 := Scalar.remsi v13 c16_i32_10
  let c128_i32 : BitVec 32 := 128#32
  let v15 : BitVec 32 := Scalar.muli v14 c128_i32
  let c128_i32_13 : BitVec 32 := 128#32
  let v23 : BitVec 32 := Scalar.subi v15 c128_i32_13
  let v24 : BitVec 32 := Scalar.maxsi c0_i32_14 v23
  let v25 : BitVec 32 := Scalar.minsi c1664_i32 v24
  let v26 : BitVec 32 := v25
  let v130 : Index := Scalar.indexCast v26
  let c512 : Index := 512#32
  ![v130.toNat, 512]
def k0_off7 (d0 : Dev nD) : Fin 2 → Nat :=
  let c1664_i32 : BitVec 32 := 1664#32
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v13 : BitVec 32 := Scalar.addi v2 c32_i32
  let c16_i32_10 : BitVec 32 := 16#32
  let v14 : BitVec 32 := Scalar.remsi v13 c16_i32_10
  let c128_i32 : BitVec 32 := 128#32
  let v15 : BitVec 32 := Scalar.muli v14 c128_i32
  let c128_i32_13 : BitVec 32 := 128#32
  let v23 : BitVec 32 := Scalar.subi v15 c128_i32_13
  let v24 : BitVec 32 := Scalar.maxsi c0_i32_14 v23
  let v25 : BitVec 32 := Scalar.minsi c1664_i32 v24
  let v26 : BitVec 32 := v25
  let v152 : Index := Scalar.indexCast v26
  let c640 : Index := 640#32
  ![v152.toNat, 640]
def k0_off8 (d0 : Dev nD) : Fin 2 → Nat :=
  let c1664_i32 : BitVec 32 := 1664#32
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v13 : BitVec 32 := Scalar.addi v2 c32_i32
  let c16_i32_10 : BitVec 32 := 16#32
  let v14 : BitVec 32 := Scalar.remsi v13 c16_i32_10
  let c128_i32 : BitVec 32 := 128#32
  let v15 : BitVec 32 := Scalar.muli v14 c128_i32
  let c128_i32_13 : BitVec 32 := 128#32
  let v23 : BitVec 32 := Scalar.subi v15 c128_i32_13
  let v24 : BitVec 32 := Scalar.maxsi c0_i32_14 v23
  let v25 : BitVec 32 := Scalar.minsi c1664_i32 v24
  let v26 : BitVec 32 := v25
  let v174 : Index := Scalar.indexCast v26
  let c768 : Index := 768#32
  ![v174.toNat, 768]
def k0_off9 (d0 : Dev nD) : Fin 2 → Nat :=
  let c1664_i32 : BitVec 32 := 1664#32
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v13 : BitVec 32 := Scalar.addi v2 c32_i32
  let c16_i32_10 : BitVec 32 := 16#32
  let v14 : BitVec 32 := Scalar.remsi v13 c16_i32_10
  let c128_i32 : BitVec 32 := 128#32
  let v15 : BitVec 32 := Scalar.muli v14 c128_i32
  let c128_i32_13 : BitVec 32 := 128#32
  let v23 : BitVec 32 := Scalar.subi v15 c128_i32_13
  let v24 : BitVec 32 := Scalar.maxsi c0_i32_14 v23
  let v25 : BitVec 32 := Scalar.minsi c1664_i32 v24
  let v26 : BitVec 32 := v25
  let v196 : Index := Scalar.indexCast v26
  let c896 : Index := 896#32
  ![v196.toNat, 896]
def k0_dev3 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_77 : BitVec 32 := 1#32
  let v225 : BitVec 32 := Scalar.muli v4 c1_i32_77
  let v226 : BitVec 32 := Scalar.addi c0_i32_78 v225
  v226.toNat
def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_83 : BitVec 32 := 1#32
  let v235 : BitVec 32 := Scalar.subi v2 c1_i32_83
  let c32_i32_84 : BitVec 32 := 32#32
  let v236 : BitVec 32 := Scalar.addi v235 c32_i32_84
  let c16_i32_85 : BitVec 32 := 16#32
  let v237 : BitVec 32 := Scalar.remsi v236 c16_i32_85
  let c128_i32_86 : BitVec 32 := 128#32
  let v238 : BitVec 32 := Scalar.muli v237 c128_i32_86
  let v239 : Index := Scalar.indexCast v238
  let c0_87 : Index := 0#32
  ![v239.toNat, 0]
def k0_mult2 (d0 : Dev nD) : BitVec 32 :=
  let c1664_i32_93 : BitVec 32 := 1664#32
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_83 : BitVec 32 := 1#32
  let v235 : BitVec 32 := Scalar.subi v2 c1_i32_83
  let c32_i32_84 : BitVec 32 := 32#32
  let v236 : BitVec 32 := Scalar.addi v235 c32_i32_84
  let c16_i32_85 : BitVec 32 := 16#32
  let v237 : BitVec 32 := Scalar.remsi v236 c16_i32_85
  let c128_i32_86 : BitVec 32 := 128#32
  let v238 : BitVec 32 := Scalar.muli v237 c128_i32_86
  let c128_i32_91 : BitVec 32 := 128#32
  let v246 : BitVec 32 := Scalar.subi v238 c128_i32_91
  let v247 : BitVec 32 := Scalar.maxsi c0_i32_92 v246
  let v248 : BitVec 32 := Scalar.minsi c1664_i32_93 v247
  v248
def k0_off11 (d0 : Dev nD) : Fin 2 → Nat :=
  let c1664_i32_93 : BitVec 32 := 1664#32
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_83 : BitVec 32 := 1#32
  let v235 : BitVec 32 := Scalar.subi v2 c1_i32_83
  let c32_i32_84 : BitVec 32 := 32#32
  let v236 : BitVec 32 := Scalar.addi v235 c32_i32_84
  let c16_i32_85 : BitVec 32 := 16#32
  let v237 : BitVec 32 := Scalar.remsi v236 c16_i32_85
  let c128_i32_86 : BitVec 32 := 128#32
  let v238 : BitVec 32 := Scalar.muli v237 c128_i32_86
  let c128_i32_91 : BitVec 32 := 128#32
  let v246 : BitVec 32 := Scalar.subi v238 c128_i32_91
  let v247 : BitVec 32 := Scalar.maxsi c0_i32_92 v246
  let v248 : BitVec 32 := Scalar.minsi c1664_i32_93 v247
  let v249 : BitVec 32 := v248
  let v265 : Index := Scalar.indexCast v249
  let c0_97 : Index := 0#32
  ![v265.toNat, 0]
def k0_off12 (d0 : Dev nD) : Fin 2 → Nat :=
  let c1664_i32_93 : BitVec 32 := 1664#32
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_83 : BitVec 32 := 1#32
  let v235 : BitVec 32 := Scalar.subi v2 c1_i32_83
  let c32_i32_84 : BitVec 32 := 32#32
  let v236 : BitVec 32 := Scalar.addi v235 c32_i32_84
  let c16_i32_85 : BitVec 32 := 16#32
  let v237 : BitVec 32 := Scalar.remsi v236 c16_i32_85
  let c128_i32_86 : BitVec 32 := 128#32
  let v238 : BitVec 32 := Scalar.muli v237 c128_i32_86
  let c128_i32_91 : BitVec 32 := 128#32
  let v246 : BitVec 32 := Scalar.subi v238 c128_i32_91
  let v247 : BitVec 32 := Scalar.maxsi c0_i32_92 v246
  let v248 : BitVec 32 := Scalar.minsi c1664_i32_93 v247
  let v249 : BitVec 32 := v248
  let v287 : Index := Scalar.indexCast v249
  let c128_104 : Index := 128#32
  ![v287.toNat, 128]
def k0_off13 (d0 : Dev nD) : Fin 2 → Nat :=
  let c1664_i32_93 : BitVec 32 := 1664#32
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_83 : BitVec 32 := 1#32
  let v235 : BitVec 32 := Scalar.subi v2 c1_i32_83
  let c32_i32_84 : BitVec 32 := 32#32
  let v236 : BitVec 32 := Scalar.addi v235 c32_i32_84
  let c16_i32_85 : BitVec 32 := 16#32
  let v237 : BitVec 32 := Scalar.remsi v236 c16_i32_85
  let c128_i32_86 : BitVec 32 := 128#32
  let v238 : BitVec 32 := Scalar.muli v237 c128_i32_86
  let c128_i32_91 : BitVec 32 := 128#32
  let v246 : BitVec 32 := Scalar.subi v238 c128_i32_91
  let v247 : BitVec 32 := Scalar.maxsi c0_i32_92 v246
  let v248 : BitVec 32 := Scalar.minsi c1664_i32_93 v247
  let v249 : BitVec 32 := v248
  let v309 : Index := Scalar.indexCast v249
  let c256_111 : Index := 256#32
  ![v309.toNat, 256]
def k0_off14 (d0 : Dev nD) : Fin 2 → Nat :=
  let c1664_i32_93 : BitVec 32 := 1664#32
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_83 : BitVec 32 := 1#32
  let v235 : BitVec 32 := Scalar.subi v2 c1_i32_83
  let c32_i32_84 : BitVec 32 := 32#32
  let v236 : BitVec 32 := Scalar.addi v235 c32_i32_84
  let c16_i32_85 : BitVec 32 := 16#32
  let v237 : BitVec 32 := Scalar.remsi v236 c16_i32_85
  let c128_i32_86 : BitVec 32 := 128#32
  let v238 : BitVec 32 := Scalar.muli v237 c128_i32_86
  let c128_i32_91 : BitVec 32 := 128#32
  let v246 : BitVec 32 := Scalar.subi v238 c128_i32_91
  let v247 : BitVec 32 := Scalar.maxsi c0_i32_92 v246
  let v248 : BitVec 32 := Scalar.minsi c1664_i32_93 v247
  let v249 : BitVec 32 := v248
  let v331 : Index := Scalar.indexCast v249
  let c384_118 : Index := 384#32
  ![v331.toNat, 384]
def k0_off15 (d0 : Dev nD) : Fin 2 → Nat :=
  let c1664_i32_93 : BitVec 32 := 1664#32
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_83 : BitVec 32 := 1#32
  let v235 : BitVec 32 := Scalar.subi v2 c1_i32_83
  let c32_i32_84 : BitVec 32 := 32#32
  let v236 : BitVec 32 := Scalar.addi v235 c32_i32_84
  let c16_i32_85 : BitVec 32 := 16#32
  let v237 : BitVec 32 := Scalar.remsi v236 c16_i32_85
  let c128_i32_86 : BitVec 32 := 128#32
  let v238 : BitVec 32 := Scalar.muli v237 c128_i32_86
  let c128_i32_91 : BitVec 32 := 128#32
  let v246 : BitVec 32 := Scalar.subi v238 c128_i32_91
  let v247 : BitVec 32 := Scalar.maxsi c0_i32_92 v246
  let v248 : BitVec 32 := Scalar.minsi c1664_i32_93 v247
  let v249 : BitVec 32 := v248
  let v353 : Index := Scalar.indexCast v249
  let c512_125 : Index := 512#32
  ![v353.toNat, 512]
def k0_off16 (d0 : Dev nD) : Fin 2 → Nat :=
  let c1664_i32_93 : BitVec 32 := 1664#32
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_83 : BitVec 32 := 1#32
  let v235 : BitVec 32 := Scalar.subi v2 c1_i32_83
  let c32_i32_84 : BitVec 32 := 32#32
  let v236 : BitVec 32 := Scalar.addi v235 c32_i32_84
  let c16_i32_85 : BitVec 32 := 16#32
  let v237 : BitVec 32 := Scalar.remsi v236 c16_i32_85
  let c128_i32_86 : BitVec 32 := 128#32
  let v238 : BitVec 32 := Scalar.muli v237 c128_i32_86
  let c128_i32_91 : BitVec 32 := 128#32
  let v246 : BitVec 32 := Scalar.subi v238 c128_i32_91
  let v247 : BitVec 32 := Scalar.maxsi c0_i32_92 v246
  let v248 : BitVec 32 := Scalar.minsi c1664_i32_93 v247
  let v249 : BitVec 32 := v248
  let v375 : Index := Scalar.indexCast v249
  let c640_132 : Index := 640#32
  ![v375.toNat, 640]
def k0_off17 (d0 : Dev nD) : Fin 2 → Nat :=
  let c1664_i32_93 : BitVec 32 := 1664#32
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_83 : BitVec 32 := 1#32
  let v235 : BitVec 32 := Scalar.subi v2 c1_i32_83
  let c32_i32_84 : BitVec 32 := 32#32
  let v236 : BitVec 32 := Scalar.addi v235 c32_i32_84
  let c16_i32_85 : BitVec 32 := 16#32
  let v237 : BitVec 32 := Scalar.remsi v236 c16_i32_85
  let c128_i32_86 : BitVec 32 := 128#32
  let v238 : BitVec 32 := Scalar.muli v237 c128_i32_86
  let c128_i32_91 : BitVec 32 := 128#32
  let v246 : BitVec 32 := Scalar.subi v238 c128_i32_91
  let v247 : BitVec 32 := Scalar.maxsi c0_i32_92 v246
  let v248 : BitVec 32 := Scalar.minsi c1664_i32_93 v247
  let v249 : BitVec 32 := v248
  let v397 : Index := Scalar.indexCast v249
  let c768_139 : Index := 768#32
  ![v397.toNat, 768]
def k0_off18 (d0 : Dev nD) : Fin 2 → Nat :=
  let c1664_i32_93 : BitVec 32 := 1664#32
  let c0_i32_92 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_83 : BitVec 32 := 1#32
  let v235 : BitVec 32 := Scalar.subi v2 c1_i32_83
  let c32_i32_84 : BitVec 32 := 32#32
  let v236 : BitVec 32 := Scalar.addi v235 c32_i32_84
  let c16_i32_85 : BitVec 32 := 16#32
  let v237 : BitVec 32 := Scalar.remsi v236 c16_i32_85
  let c128_i32_86 : BitVec 32 := 128#32
  let v238 : BitVec 32 := Scalar.muli v237 c128_i32_86
  let c128_i32_91 : BitVec 32 := 128#32
  let v246 : BitVec 32 := Scalar.subi v238 c128_i32_91
  let v247 : BitVec 32 := Scalar.maxsi c0_i32_92 v246
  let v248 : BitVec 32 := Scalar.minsi c1664_i32_93 v247
  let v249 : BitVec 32 := v248
  let v419 : Index := Scalar.indexCast v249
  let c896_146 : Index := 896#32
  ![v419.toNat, 896]
def k0_dev4 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_184 : BitVec 32 := 1#32
  let v465 : BitVec 32 := Scalar.muli v4 c1_i32_184
  let v466 : BitVec 32 := Scalar.addi c0_i32_185 v465
  v466.toNat
def k0_off19 (d0 : Dev nD) (c0_i32_191 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_190 : BitVec 32 := 2#32
  let v475 : BitVec 32 := Scalar.subi v2 c2_i32_190
  let v476 : BitVec 32 := Scalar.subi v475 c0_i32_191
  let c32_i32_192 : BitVec 32 := 32#32
  let v477 : BitVec 32 := Scalar.addi v476 c32_i32_192
  let c16_i32_193 : BitVec 32 := 16#32
  let v478 : BitVec 32 := Scalar.remsi v477 c16_i32_193
  let c128_i32_194 : BitVec 32 := 128#32
  let v479 : BitVec 32 := Scalar.muli v478 c128_i32_194
  let v480 : Index := Scalar.indexCast v479
  let c0_195 : Index := 0#32
  ![v480.toNat, 0]
def k0_mult3 (d0 : Dev nD) : BitVec 32 :=
  let c1664_i32_201 : BitVec 32 := 1664#32
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_190 : BitVec 32 := 2#32
  let v475 : BitVec 32 := Scalar.subi v2 c2_i32_190
  let c0_i32_191 : BitVec 32 := 0#32
  let v476 : BitVec 32 := Scalar.subi v475 c0_i32_191
  let c32_i32_192 : BitVec 32 := 32#32
  let v477 : BitVec 32 := Scalar.addi v476 c32_i32_192
  let c16_i32_193 : BitVec 32 := 16#32
  let v478 : BitVec 32 := Scalar.remsi v477 c16_i32_193
  let c128_i32_194 : BitVec 32 := 128#32
  let v479 : BitVec 32 := Scalar.muli v478 c128_i32_194
  let c128_i32_199 : BitVec 32 := 128#32
  let v487 : BitVec 32 := Scalar.subi v479 c128_i32_199
  let v488 : BitVec 32 := Scalar.maxsi c0_i32_200 v487
  let v489 : BitVec 32 := Scalar.minsi c1664_i32_201 v488
  v489
def k0_off20 (d0 : Dev nD) (c0_i32_191 : BitVec 32) : Fin 2 → Nat :=
  let c1664_i32_201 : BitVec 32 := 1664#32
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_190 : BitVec 32 := 2#32
  let v475 : BitVec 32 := Scalar.subi v2 c2_i32_190
  let v476 : BitVec 32 := Scalar.subi v475 c0_i32_191
  let c32_i32_192 : BitVec 32 := 32#32
  let v477 : BitVec 32 := Scalar.addi v476 c32_i32_192
  let c16_i32_193 : BitVec 32 := 16#32
  let v478 : BitVec 32 := Scalar.remsi v477 c16_i32_193
  let c128_i32_194 : BitVec 32 := 128#32
  let v479 : BitVec 32 := Scalar.muli v478 c128_i32_194
  let c128_i32_199 : BitVec 32 := 128#32
  let v487 : BitVec 32 := Scalar.subi v479 c128_i32_199
  let v488 : BitVec 32 := Scalar.maxsi c0_i32_200 v487
  let v489 : BitVec 32 := Scalar.minsi c1664_i32_201 v488
  let v490 : BitVec 32 := v489
  let v506 : Index := Scalar.indexCast v490
  let c0_205 : Index := 0#32
  ![v506.toNat, 0]
def k0_off21 (d0 : Dev nD) (c0_i32_191 : BitVec 32) : Fin 2 → Nat :=
  let c1664_i32_201 : BitVec 32 := 1664#32
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_190 : BitVec 32 := 2#32
  let v475 : BitVec 32 := Scalar.subi v2 c2_i32_190
  let v476 : BitVec 32 := Scalar.subi v475 c0_i32_191
  let c32_i32_192 : BitVec 32 := 32#32
  let v477 : BitVec 32 := Scalar.addi v476 c32_i32_192
  let c16_i32_193 : BitVec 32 := 16#32
  let v478 : BitVec 32 := Scalar.remsi v477 c16_i32_193
  let c128_i32_194 : BitVec 32 := 128#32
  let v479 : BitVec 32 := Scalar.muli v478 c128_i32_194
  let c128_i32_199 : BitVec 32 := 128#32
  let v487 : BitVec 32 := Scalar.subi v479 c128_i32_199
  let v488 : BitVec 32 := Scalar.maxsi c0_i32_200 v487
  let v489 : BitVec 32 := Scalar.minsi c1664_i32_201 v488
  let v490 : BitVec 32 := v489
  let v528 : Index := Scalar.indexCast v490
  let c128_212 : Index := 128#32
  ![v528.toNat, 128]
def k0_off22 (d0 : Dev nD) (c0_i32_191 : BitVec 32) : Fin 2 → Nat :=
  let c1664_i32_201 : BitVec 32 := 1664#32
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_190 : BitVec 32 := 2#32
  let v475 : BitVec 32 := Scalar.subi v2 c2_i32_190
  let v476 : BitVec 32 := Scalar.subi v475 c0_i32_191
  let c32_i32_192 : BitVec 32 := 32#32
  let v477 : BitVec 32 := Scalar.addi v476 c32_i32_192
  let c16_i32_193 : BitVec 32 := 16#32
  let v478 : BitVec 32 := Scalar.remsi v477 c16_i32_193
  let c128_i32_194 : BitVec 32 := 128#32
  let v479 : BitVec 32 := Scalar.muli v478 c128_i32_194
  let c128_i32_199 : BitVec 32 := 128#32
  let v487 : BitVec 32 := Scalar.subi v479 c128_i32_199
  let v488 : BitVec 32 := Scalar.maxsi c0_i32_200 v487
  let v489 : BitVec 32 := Scalar.minsi c1664_i32_201 v488
  let v490 : BitVec 32 := v489
  let v550 : Index := Scalar.indexCast v490
  let c256_219 : Index := 256#32
  ![v550.toNat, 256]
def k0_off23 (d0 : Dev nD) (c0_i32_191 : BitVec 32) : Fin 2 → Nat :=
  let c1664_i32_201 : BitVec 32 := 1664#32
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_190 : BitVec 32 := 2#32
  let v475 : BitVec 32 := Scalar.subi v2 c2_i32_190
  let v476 : BitVec 32 := Scalar.subi v475 c0_i32_191
  let c32_i32_192 : BitVec 32 := 32#32
  let v477 : BitVec 32 := Scalar.addi v476 c32_i32_192
  let c16_i32_193 : BitVec 32 := 16#32
  let v478 : BitVec 32 := Scalar.remsi v477 c16_i32_193
  let c128_i32_194 : BitVec 32 := 128#32
  let v479 : BitVec 32 := Scalar.muli v478 c128_i32_194
  let c128_i32_199 : BitVec 32 := 128#32
  let v487 : BitVec 32 := Scalar.subi v479 c128_i32_199
  let v488 : BitVec 32 := Scalar.maxsi c0_i32_200 v487
  let v489 : BitVec 32 := Scalar.minsi c1664_i32_201 v488
  let v490 : BitVec 32 := v489
  let v572 : Index := Scalar.indexCast v490
  let c384_226 : Index := 384#32
  ![v572.toNat, 384]
def k0_off24 (d0 : Dev nD) (c0_i32_191 : BitVec 32) : Fin 2 → Nat :=
  let c1664_i32_201 : BitVec 32 := 1664#32
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_190 : BitVec 32 := 2#32
  let v475 : BitVec 32 := Scalar.subi v2 c2_i32_190
  let v476 : BitVec 32 := Scalar.subi v475 c0_i32_191
  let c32_i32_192 : BitVec 32 := 32#32
  let v477 : BitVec 32 := Scalar.addi v476 c32_i32_192
  let c16_i32_193 : BitVec 32 := 16#32
  let v478 : BitVec 32 := Scalar.remsi v477 c16_i32_193
  let c128_i32_194 : BitVec 32 := 128#32
  let v479 : BitVec 32 := Scalar.muli v478 c128_i32_194
  let c128_i32_199 : BitVec 32 := 128#32
  let v487 : BitVec 32 := Scalar.subi v479 c128_i32_199
  let v488 : BitVec 32 := Scalar.maxsi c0_i32_200 v487
  let v489 : BitVec 32 := Scalar.minsi c1664_i32_201 v488
  let v490 : BitVec 32 := v489
  let v594 : Index := Scalar.indexCast v490
  let c512_233 : Index := 512#32
  ![v594.toNat, 512]
def k0_off25 (d0 : Dev nD) (c0_i32_191 : BitVec 32) : Fin 2 → Nat :=
  let c1664_i32_201 : BitVec 32 := 1664#32
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_190 : BitVec 32 := 2#32
  let v475 : BitVec 32 := Scalar.subi v2 c2_i32_190
  let v476 : BitVec 32 := Scalar.subi v475 c0_i32_191
  let c32_i32_192 : BitVec 32 := 32#32
  let v477 : BitVec 32 := Scalar.addi v476 c32_i32_192
  let c16_i32_193 : BitVec 32 := 16#32
  let v478 : BitVec 32 := Scalar.remsi v477 c16_i32_193
  let c128_i32_194 : BitVec 32 := 128#32
  let v479 : BitVec 32 := Scalar.muli v478 c128_i32_194
  let c128_i32_199 : BitVec 32 := 128#32
  let v487 : BitVec 32 := Scalar.subi v479 c128_i32_199
  let v488 : BitVec 32 := Scalar.maxsi c0_i32_200 v487
  let v489 : BitVec 32 := Scalar.minsi c1664_i32_201 v488
  let v490 : BitVec 32 := v489
  let v616 : Index := Scalar.indexCast v490
  let c640_240 : Index := 640#32
  ![v616.toNat, 640]
def k0_off26 (d0 : Dev nD) (c0_i32_191 : BitVec 32) : Fin 2 → Nat :=
  let c1664_i32_201 : BitVec 32 := 1664#32
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_190 : BitVec 32 := 2#32
  let v475 : BitVec 32 := Scalar.subi v2 c2_i32_190
  let v476 : BitVec 32 := Scalar.subi v475 c0_i32_191
  let c32_i32_192 : BitVec 32 := 32#32
  let v477 : BitVec 32 := Scalar.addi v476 c32_i32_192
  let c16_i32_193 : BitVec 32 := 16#32
  let v478 : BitVec 32 := Scalar.remsi v477 c16_i32_193
  let c128_i32_194 : BitVec 32 := 128#32
  let v479 : BitVec 32 := Scalar.muli v478 c128_i32_194
  let c128_i32_199 : BitVec 32 := 128#32
  let v487 : BitVec 32 := Scalar.subi v479 c128_i32_199
  let v488 : BitVec 32 := Scalar.maxsi c0_i32_200 v487
  let v489 : BitVec 32 := Scalar.minsi c1664_i32_201 v488
  let v490 : BitVec 32 := v489
  let v638 : Index := Scalar.indexCast v490
  let c768_247 : Index := 768#32
  ![v638.toNat, 768]
def k0_off27 (d0 : Dev nD) (c0_i32_191 : BitVec 32) : Fin 2 → Nat :=
  let c1664_i32_201 : BitVec 32 := 1664#32
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_190 : BitVec 32 := 2#32
  let v475 : BitVec 32 := Scalar.subi v2 c2_i32_190
  let v476 : BitVec 32 := Scalar.subi v475 c0_i32_191
  let c32_i32_192 : BitVec 32 := 32#32
  let v477 : BitVec 32 := Scalar.addi v476 c32_i32_192
  let c16_i32_193 : BitVec 32 := 16#32
  let v478 : BitVec 32 := Scalar.remsi v477 c16_i32_193
  let c128_i32_194 : BitVec 32 := 128#32
  let v479 : BitVec 32 := Scalar.muli v478 c128_i32_194
  let c128_i32_199 : BitVec 32 := 128#32
  let v487 : BitVec 32 := Scalar.subi v479 c128_i32_199
  let v488 : BitVec 32 := Scalar.maxsi c0_i32_200 v487
  let v489 : BitVec 32 := Scalar.minsi c1664_i32_201 v488
  let v490 : BitVec 32 := v489
  let v660 : Index := Scalar.indexCast v490
  let c896_254 : Index := 896#32
  ![v660.toNat, 896]
def k0_dev5 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_292 : BitVec 32 := 1#32
  let v706 : BitVec 32 := Scalar.muli v4 c1_i32_292
  let v707 : BitVec 32 := Scalar.addi c0_i32_293 v706
  v707.toNat
def k0_mult4 (d0 : Dev nD) : BitVec 32 :=
  let c1664_i32_309 : BitVec 32 := 1664#32
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_298 : BitVec 32 := 2#32
  let v716 : BitVec 32 := Scalar.subi v2 c2_i32_298
  let c1_i32_299 : BitVec 32 := 1#32
  let v717 : BitVec 32 := Scalar.subi v716 c1_i32_299
  let c32_i32_300 : BitVec 32 := 32#32
  let v718 : BitVec 32 := Scalar.addi v717 c32_i32_300
  let c16_i32_301 : BitVec 32 := 16#32
  let v719 : BitVec 32 := Scalar.remsi v718 c16_i32_301
  let c128_i32_302 : BitVec 32 := 128#32
  let v720 : BitVec 32 := Scalar.muli v719 c128_i32_302
  let c128_i32_307 : BitVec 32 := 128#32
  let v728 : BitVec 32 := Scalar.subi v720 c128_i32_307
  let v729 : BitVec 32 := Scalar.maxsi c0_i32_308 v728
  let v730 : BitVec 32 := Scalar.minsi c1664_i32_309 v729
  v730
def k0_dev6 (d0 : Dev nD) : Nat :=
  let c0_i32_400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_399 : BitVec 32 := 1#32
  let v947 : BitVec 32 := Scalar.muli v4 c1_i32_399
  let v948 : BitVec 32 := Scalar.addi c0_i32_400 v947
  v948.toNat
def k0_mult5 (d0 : Dev nD) : BitVec 32 :=
  let c1664_i32_416 : BitVec 32 := 1664#32
  let c0_i32_415 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_405 : BitVec 32 := 2#32
  let v957 : BitVec 32 := Scalar.subi v2 c2_i32_405
  let c2_i32_406 : BitVec 32 := 2#32
  let v958 : BitVec 32 := Scalar.subi v957 c2_i32_406
  let c32_i32_407 : BitVec 32 := 32#32
  let v959 : BitVec 32 := Scalar.addi v958 c32_i32_407
  let c16_i32_408 : BitVec 32 := 16#32
  let v960 : BitVec 32 := Scalar.remsi v959 c16_i32_408
  let c128_i32_409 : BitVec 32 := 128#32
  let v961 : BitVec 32 := Scalar.muli v960 c128_i32_409
  let c128_i32_414 : BitVec 32 := 128#32
  let v969 : BitVec 32 := Scalar.subi v961 c128_i32_414
  let v970 : BitVec 32 := Scalar.maxsi c0_i32_415 v969
  let v971 : BitVec 32 := Scalar.minsi c1664_i32_416 v970
  v971
def k0_dev7 (d0 : Dev nD) : Nat :=
  let c0_i32_507 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_506 : BitVec 32 := 1#32
  let v1188 : BitVec 32 := Scalar.muli v4 c1_i32_506
  let v1189 : BitVec 32 := Scalar.addi c0_i32_507 v1188
  v1189.toNat
def k0_mult6 (d0 : Dev nD) : BitVec 32 :=
  let c1664_i32_523 : BitVec 32 := 1664#32
  let c0_i32_522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_512 : BitVec 32 := 2#32
  let v1198 : BitVec 32 := Scalar.subi v2 c2_i32_512
  let c3_i32_513 : BitVec 32 := 3#32
  let v1199 : BitVec 32 := Scalar.subi v1198 c3_i32_513
  let c32_i32_514 : BitVec 32 := 32#32
  let v1200 : BitVec 32 := Scalar.addi v1199 c32_i32_514
  let c16_i32_515 : BitVec 32 := 16#32
  let v1201 : BitVec 32 := Scalar.remsi v1200 c16_i32_515
  let c128_i32_516 : BitVec 32 := 128#32
  let v1202 : BitVec 32 := Scalar.muli v1201 c128_i32_516
  let c128_i32_521 : BitVec 32 := 128#32
  let v1210 : BitVec 32 := Scalar.subi v1202 c128_i32_521
  let v1211 : BitVec 32 := Scalar.maxsi c0_i32_522 v1210
  let v1212 : BitVec 32 := Scalar.minsi c1664_i32_523 v1211
  v1212
def k0_dev8 (d0 : Dev nD) : Nat :=
  let c0_i32_614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_613 : BitVec 32 := 1#32
  let v1429 : BitVec 32 := Scalar.muli v4 c1_i32_613
  let v1430 : BitVec 32 := Scalar.addi c0_i32_614 v1429
  v1430.toNat
def k0_mult7 (d0 : Dev nD) : BitVec 32 :=
  let c1664_i32_630 : BitVec 32 := 1664#32
  let c0_i32_629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_619 : BitVec 32 := 2#32
  let v1439 : BitVec 32 := Scalar.subi v2 c2_i32_619
  let c4_i32_620 : BitVec 32 := 4#32
  let v1440 : BitVec 32 := Scalar.subi v1439 c4_i32_620
  let c32_i32_621 : BitVec 32 := 32#32
  let v1441 : BitVec 32 := Scalar.addi v1440 c32_i32_621
  let c16_i32_622 : BitVec 32 := 16#32
  let v1442 : BitVec 32 := Scalar.remsi v1441 c16_i32_622
  let c128_i32_623 : BitVec 32 := 128#32
  let v1443 : BitVec 32 := Scalar.muli v1442 c128_i32_623
  let c128_i32_628 : BitVec 32 := 128#32
  let v1451 : BitVec 32 := Scalar.subi v1443 c128_i32_628
  let v1452 : BitVec 32 := Scalar.maxsi c0_i32_629 v1451
  let v1453 : BitVec 32 := Scalar.minsi c1664_i32_630 v1452
  v1453
def k0_dev9 (d0 : Dev nD) : Nat :=
  let c0_i32_721 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_720 : BitVec 32 := 1#32
  let v1670 : BitVec 32 := Scalar.muli v4 c1_i32_720
  let v1671 : BitVec 32 := Scalar.addi c0_i32_721 v1670
  v1671.toNat
def k0_mult8 (d0 : Dev nD) : BitVec 32 :=
  let c1664_i32_737 : BitVec 32 := 1664#32
  let c0_i32_736 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_726 : BitVec 32 := 2#32
  let v1680 : BitVec 32 := Scalar.subi v2 c2_i32_726
  let c5_i32_727 : BitVec 32 := 5#32
  let v1681 : BitVec 32 := Scalar.subi v1680 c5_i32_727
  let c32_i32_728 : BitVec 32 := 32#32
  let v1682 : BitVec 32 := Scalar.addi v1681 c32_i32_728
  let c16_i32_729 : BitVec 32 := 16#32
  let v1683 : BitVec 32 := Scalar.remsi v1682 c16_i32_729
  let c128_i32_730 : BitVec 32 := 128#32
  let v1684 : BitVec 32 := Scalar.muli v1683 c128_i32_730
  let c128_i32_735 : BitVec 32 := 128#32
  let v1692 : BitVec 32 := Scalar.subi v1684 c128_i32_735
  let v1693 : BitVec 32 := Scalar.maxsi c0_i32_736 v1692
  let v1694 : BitVec 32 := Scalar.minsi c1664_i32_737 v1693
  v1694
def k0_dev10 (d0 : Dev nD) : Nat :=
  let c0_i32_828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_827 : BitVec 32 := 1#32
  let v1911 : BitVec 32 := Scalar.muli v4 c1_i32_827
  let v1912 : BitVec 32 := Scalar.addi c0_i32_828 v1911
  v1912.toNat
def k0_mult9 (d0 : Dev nD) : BitVec 32 :=
  let c1664_i32_844 : BitVec 32 := 1664#32
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_833 : BitVec 32 := 2#32
  let v1921 : BitVec 32 := Scalar.subi v2 c2_i32_833
  let c6_i32_834 : BitVec 32 := 6#32
  let v1922 : BitVec 32 := Scalar.subi v1921 c6_i32_834
  let c32_i32_835 : BitVec 32 := 32#32
  let v1923 : BitVec 32 := Scalar.addi v1922 c32_i32_835
  let c16_i32_836 : BitVec 32 := 16#32
  let v1924 : BitVec 32 := Scalar.remsi v1923 c16_i32_836
  let c128_i32_837 : BitVec 32 := 128#32
  let v1925 : BitVec 32 := Scalar.muli v1924 c128_i32_837
  let c128_i32_842 : BitVec 32 := 128#32
  let v1933 : BitVec 32 := Scalar.subi v1925 c128_i32_842
  let v1934 : BitVec 32 := Scalar.maxsi c0_i32_843 v1933
  let v1935 : BitVec 32 := Scalar.minsi c1664_i32_844 v1934
  v1935
def k0_dev11 (d0 : Dev nD) : Nat :=
  let c0_i32_935 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_934 : BitVec 32 := 1#32
  let v2152 : BitVec 32 := Scalar.muli v4 c1_i32_934
  let v2153 : BitVec 32 := Scalar.addi c0_i32_935 v2152
  v2153.toNat
def k0_mult10 (d0 : Dev nD) : BitVec 32 :=
  let c1664_i32_951 : BitVec 32 := 1664#32
  let c0_i32_950 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_940 : BitVec 32 := 2#32
  let v2162 : BitVec 32 := Scalar.subi v2 c2_i32_940
  let c7_i32_941 : BitVec 32 := 7#32
  let v2163 : BitVec 32 := Scalar.subi v2162 c7_i32_941
  let c32_i32_942 : BitVec 32 := 32#32
  let v2164 : BitVec 32 := Scalar.addi v2163 c32_i32_942
  let c16_i32_943 : BitVec 32 := 16#32
  let v2165 : BitVec 32 := Scalar.remsi v2164 c16_i32_943
  let c128_i32_944 : BitVec 32 := 128#32
  let v2166 : BitVec 32 := Scalar.muli v2165 c128_i32_944
  let c128_i32_949 : BitVec 32 := 128#32
  let v2174 : BitVec 32 := Scalar.subi v2166 c128_i32_949
  let v2175 : BitVec 32 := Scalar.maxsi c0_i32_950 v2174
  let v2176 : BitVec 32 := Scalar.minsi c1664_i32_951 v2175
  v2176
def k0_dev12 (d0 : Dev nD) : Nat :=
  let c0_i32_1042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1041 : BitVec 32 := 1#32
  let v2393 : BitVec 32 := Scalar.muli v4 c1_i32_1041
  let v2394 : BitVec 32 := Scalar.addi c0_i32_1042 v2393
  v2394.toNat
def k0_mult11 (d0 : Dev nD) : BitVec 32 :=
  let c1664_i32_1058 : BitVec 32 := 1664#32
  let c0_i32_1057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1047 : BitVec 32 := 2#32
  let v2403 : BitVec 32 := Scalar.subi v2 c2_i32_1047
  let c8_i32_1048 : BitVec 32 := 8#32
  let v2404 : BitVec 32 := Scalar.subi v2403 c8_i32_1048
  let c32_i32_1049 : BitVec 32 := 32#32
  let v2405 : BitVec 32 := Scalar.addi v2404 c32_i32_1049
  let c16_i32_1050 : BitVec 32 := 16#32
  let v2406 : BitVec 32 := Scalar.remsi v2405 c16_i32_1050
  let c128_i32_1051 : BitVec 32 := 128#32
  let v2407 : BitVec 32 := Scalar.muli v2406 c128_i32_1051
  let c128_i32_1056 : BitVec 32 := 128#32
  let v2415 : BitVec 32 := Scalar.subi v2407 c128_i32_1056
  let v2416 : BitVec 32 := Scalar.maxsi c0_i32_1057 v2415
  let v2417 : BitVec 32 := Scalar.minsi c1664_i32_1058 v2416
  v2417
def k0_dev13 (d0 : Dev nD) : Nat :=
  let c0_i32_1149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1148 : BitVec 32 := 1#32
  let v2634 : BitVec 32 := Scalar.muli v4 c1_i32_1148
  let v2635 : BitVec 32 := Scalar.addi c0_i32_1149 v2634
  v2635.toNat
def k0_mult12 (d0 : Dev nD) : BitVec 32 :=
  let c1664_i32_1165 : BitVec 32 := 1664#32
  let c0_i32_1164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1154 : BitVec 32 := 2#32
  let v2644 : BitVec 32 := Scalar.subi v2 c2_i32_1154
  let c9_i32_1155 : BitVec 32 := 9#32
  let v2645 : BitVec 32 := Scalar.subi v2644 c9_i32_1155
  let c32_i32_1156 : BitVec 32 := 32#32
  let v2646 : BitVec 32 := Scalar.addi v2645 c32_i32_1156
  let c16_i32_1157 : BitVec 32 := 16#32
  let v2647 : BitVec 32 := Scalar.remsi v2646 c16_i32_1157
  let c128_i32_1158 : BitVec 32 := 128#32
  let v2648 : BitVec 32 := Scalar.muli v2647 c128_i32_1158
  let c128_i32_1163 : BitVec 32 := 128#32
  let v2656 : BitVec 32 := Scalar.subi v2648 c128_i32_1163
  let v2657 : BitVec 32 := Scalar.maxsi c0_i32_1164 v2656
  let v2658 : BitVec 32 := Scalar.minsi c1664_i32_1165 v2657
  v2658
def k0_dev14 (d0 : Dev nD) : Nat :=
  let c0_i32_1256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1255 : BitVec 32 := 1#32
  let v2875 : BitVec 32 := Scalar.muli v4 c1_i32_1255
  let v2876 : BitVec 32 := Scalar.addi c0_i32_1256 v2875
  v2876.toNat
def k0_mult13 (d0 : Dev nD) : BitVec 32 :=
  let c1664_i32_1272 : BitVec 32 := 1664#32
  let c0_i32_1271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1261 : BitVec 32 := 2#32
  let v2885 : BitVec 32 := Scalar.subi v2 c2_i32_1261
  let c10_i32_1262 : BitVec 32 := 10#32
  let v2886 : BitVec 32 := Scalar.subi v2885 c10_i32_1262
  let c32_i32_1263 : BitVec 32 := 32#32
  let v2887 : BitVec 32 := Scalar.addi v2886 c32_i32_1263
  let c16_i32_1264 : BitVec 32 := 16#32
  let v2888 : BitVec 32 := Scalar.remsi v2887 c16_i32_1264
  let c128_i32_1265 : BitVec 32 := 128#32
  let v2889 : BitVec 32 := Scalar.muli v2888 c128_i32_1265
  let c128_i32_1270 : BitVec 32 := 128#32
  let v2897 : BitVec 32 := Scalar.subi v2889 c128_i32_1270
  let v2898 : BitVec 32 := Scalar.maxsi c0_i32_1271 v2897
  let v2899 : BitVec 32 := Scalar.minsi c1664_i32_1272 v2898
  v2899
def k0_dev15 (d0 : Dev nD) : Nat :=
  let c0_i32_1363 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1362 : BitVec 32 := 1#32
  let v3116 : BitVec 32 := Scalar.muli v4 c1_i32_1362
  let v3117 : BitVec 32 := Scalar.addi c0_i32_1363 v3116
  v3117.toNat
def k0_mult14 (d0 : Dev nD) : BitVec 32 :=
  let c1664_i32_1379 : BitVec 32 := 1664#32
  let c0_i32_1378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1368 : BitVec 32 := 2#32
  let v3126 : BitVec 32 := Scalar.subi v2 c2_i32_1368
  let c11_i32_1369 : BitVec 32 := 11#32
  let v3127 : BitVec 32 := Scalar.subi v3126 c11_i32_1369
  let c32_i32_1370 : BitVec 32 := 32#32
  let v3128 : BitVec 32 := Scalar.addi v3127 c32_i32_1370
  let c16_i32_1371 : BitVec 32 := 16#32
  let v3129 : BitVec 32 := Scalar.remsi v3128 c16_i32_1371
  let c128_i32_1372 : BitVec 32 := 128#32
  let v3130 : BitVec 32 := Scalar.muli v3129 c128_i32_1372
  let c128_i32_1377 : BitVec 32 := 128#32
  let v3138 : BitVec 32 := Scalar.subi v3130 c128_i32_1377
  let v3139 : BitVec 32 := Scalar.maxsi c0_i32_1378 v3138
  let v3140 : BitVec 32 := Scalar.minsi c1664_i32_1379 v3139
  v3140
def k0_dev16 (d0 : Dev nD) : Nat :=
  let c0_i32_1470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1469 : BitVec 32 := 1#32
  let v3357 : BitVec 32 := Scalar.muli v4 c1_i32_1469
  let v3358 : BitVec 32 := Scalar.addi c0_i32_1470 v3357
  v3358.toNat
def k0_mult15 (d0 : Dev nD) : BitVec 32 :=
  let c1664_i32_1486 : BitVec 32 := 1664#32
  let c0_i32_1485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1475 : BitVec 32 := 2#32
  let v3367 : BitVec 32 := Scalar.subi v2 c2_i32_1475
  let c12_i32_1476 : BitVec 32 := 12#32
  let v3368 : BitVec 32 := Scalar.subi v3367 c12_i32_1476
  let c32_i32_1477 : BitVec 32 := 32#32
  let v3369 : BitVec 32 := Scalar.addi v3368 c32_i32_1477
  let c16_i32_1478 : BitVec 32 := 16#32
  let v3370 : BitVec 32 := Scalar.remsi v3369 c16_i32_1478
  let c128_i32_1479 : BitVec 32 := 128#32
  let v3371 : BitVec 32 := Scalar.muli v3370 c128_i32_1479
  let c128_i32_1484 : BitVec 32 := 128#32
  let v3379 : BitVec 32 := Scalar.subi v3371 c128_i32_1484
  let v3380 : BitVec 32 := Scalar.maxsi c0_i32_1485 v3379
  let v3381 : BitVec 32 := Scalar.minsi c1664_i32_1486 v3380
  v3381
def k0_dev17 (d0 : Dev nD) : Nat :=
  let c0_i32_1577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1576 : BitVec 32 := 1#32
  let v3598 : BitVec 32 := Scalar.muli v4 c1_i32_1576
  let v3599 : BitVec 32 := Scalar.addi c0_i32_1577 v3598
  v3599.toNat
def k0_mult16 (d0 : Dev nD) : BitVec 32 :=
  let c1664_i32_1593 : BitVec 32 := 1664#32
  let c0_i32_1592 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1582 : BitVec 32 := 2#32
  let v3608 : BitVec 32 := Scalar.subi v2 c2_i32_1582
  let c13_i32_1583 : BitVec 32 := 13#32
  let v3609 : BitVec 32 := Scalar.subi v3608 c13_i32_1583
  let c32_i32_1584 : BitVec 32 := 32#32
  let v3610 : BitVec 32 := Scalar.addi v3609 c32_i32_1584
  let c16_i32_1585 : BitVec 32 := 16#32
  let v3611 : BitVec 32 := Scalar.remsi v3610 c16_i32_1585
  let c128_i32_1586 : BitVec 32 := 128#32
  let v3612 : BitVec 32 := Scalar.muli v3611 c128_i32_1586
  let c128_i32_1591 : BitVec 32 := 128#32
  let v3620 : BitVec 32 := Scalar.subi v3612 c128_i32_1591
  let v3621 : BitVec 32 := Scalar.maxsi c0_i32_1592 v3620
  let v3622 : BitVec 32 := Scalar.minsi c1664_i32_1593 v3621
  v3622
def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1678 : BitVec 32 := 1#32
  let v3836 : BitVec 32 := Scalar.addi v2 c1_i32_1678
  let c32_i32_1679 : BitVec 32 := 32#32
  let v3837 : BitVec 32 := Scalar.addi v3836 c32_i32_1679
  let c16_i32_1680 : BitVec 32 := 16#32
  let v3838 : BitVec 32 := Scalar.remsi v3837 c16_i32_1680
  let c128_i32_1681 : BitVec 32 := 128#32
  let v3839 : BitVec 32 := Scalar.muli v3838 c128_i32_1681
  let v3840 : Index := Scalar.indexCast v3839
  let c0_1682 : Index := 0#32
  ![v3840.toNat, 0]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1683 : BitVec 32 := 1#32
  let v3842 : BitVec 32 := Scalar.addi v2 c1_i32_1683
  let c32_i32_1687 : BitVec 32 := 32#32
  let v3846 : BitVec 32 := Scalar.addi v3842 c32_i32_1687
  let c16_i32_1688 : BitVec 32 := 16#32
  let v3847 : BitVec 32 := Scalar.remsi v3846 c16_i32_1688
  let c128_i32_1689 : BitVec 32 := 128#32
  let v3848 : BitVec 32 := Scalar.muli v3847 c128_i32_1689
  let c0_i32_1701 : BitVec 32 := 0#32
  ![v3848.toNat, 0]
def k0_dev18 (d0 : Dev nD) : Nat :=
  let c0_i32_1700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1699 : BitVec 32 := 1#32
  let v3856 : BitVec 32 := Scalar.muli v4 c1_i32_1699
  let v3857 : BitVec 32 := Scalar.addi c0_i32_1700 v3856
  v3857.toNat
def k0_dev19 (d0 : Dev nD) : Nat :=
  let c0_i32_1706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1705 : BitVec 32 := 1#32
  let v3864 : BitVec 32 := Scalar.muli v7 c1_i32_1705
  let v3865 : BitVec 32 := Scalar.addi c0_i32_1706 v3864
  v3865.toNat
def k0_off30 (d0 : Dev nD) (c0_i32_1720 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3882 : BitVec 32 := Scalar.subi v2 c0_i32_1720
  let c32_i32_1724 : BitVec 32 := 32#32
  let v3886 : BitVec 32 := Scalar.addi v3882 c32_i32_1724
  let c16_i32_1725 : BitVec 32 := 16#32
  let v3887 : BitVec 32 := Scalar.remsi v3886 c16_i32_1725
  let c128_i32_1726 : BitVec 32 := 128#32
  let v3888 : BitVec 32 := Scalar.muli v3887 c128_i32_1726
  let c0_i32_1731 : BitVec 32 := 0#32
  ![v3888.toNat, 0]
def k0_dev20 (d0 : Dev nD) : Nat :=
  let c0_i32_1730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1729 : BitVec 32 := 1#32
  let v3889 : BitVec 32 := Scalar.muli v4 c1_i32_1729
  let v3890 : BitVec 32 := Scalar.addi c0_i32_1730 v3889
  v3890.toNat
def k0_off31 (d0 : Dev nD) (c0_i32_1745 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1744 : BitVec 32 := 2#32
  let v3907 : BitVec 32 := Scalar.addi v2 c2_i32_1744
  let v3908 : BitVec 32 := Scalar.addi v3907 c0_i32_1745
  let c32_i32_1749 : BitVec 32 := 32#32
  let v3912 : BitVec 32 := Scalar.addi v3908 c32_i32_1749
  let c16_i32_1750 : BitVec 32 := 16#32
  let v3913 : BitVec 32 := Scalar.remsi v3912 c16_i32_1750
  let c128_i32_1751 : BitVec 32 := 128#32
  let v3914 : BitVec 32 := Scalar.muli v3913 c128_i32_1751
  let c0_i32_1756 : BitVec 32 := 0#32
  ![v3914.toNat, 0]
def k0_dev21 (d0 : Dev nD) : Nat :=
  let c0_i32_1755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1754 : BitVec 32 := 1#32
  let v3915 : BitVec 32 := Scalar.muli v7 c1_i32_1754
  let v3916 : BitVec 32 := Scalar.addi c0_i32_1755 v3915
  v3916.toNat
def k0_dev22 (d0 : Dev nD) : Nat :=
  let c0_i32_1779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1778 : BitVec 32 := 1#32
  let v3940 : BitVec 32 := Scalar.muli v4 c1_i32_1778
  let v3941 : BitVec 32 := Scalar.addi c0_i32_1779 v3940
  v3941.toNat
def k0_dev23 (d0 : Dev nD) : Nat :=
  let c0_i32_1804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1803 : BitVec 32 := 1#32
  let v3966 : BitVec 32 := Scalar.muli v7 c1_i32_1803
  let v3967 : BitVec 32 := Scalar.addi c0_i32_1804 v3966
  v3967.toNat
def k0_dev24 (d0 : Dev nD) : Nat :=
  let c0_i32_1828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1827 : BitVec 32 := 1#32
  let v3991 : BitVec 32 := Scalar.muli v4 c1_i32_1827
  let v3992 : BitVec 32 := Scalar.addi c0_i32_1828 v3991
  v3992.toNat
def k0_dev25 (d0 : Dev nD) : Nat :=
  let c0_i32_1853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1852 : BitVec 32 := 1#32
  let v4017 : BitVec 32 := Scalar.muli v7 c1_i32_1852
  let v4018 : BitVec 32 := Scalar.addi c0_i32_1853 v4017
  v4018.toNat
def k0_dev26 (d0 : Dev nD) : Nat :=
  let c0_i32_1877 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1876 : BitVec 32 := 1#32
  let v4042 : BitVec 32 := Scalar.muli v4 c1_i32_1876
  let v4043 : BitVec 32 := Scalar.addi c0_i32_1877 v4042
  v4043.toNat
def k0_dev27 (d0 : Dev nD) : Nat :=
  let c0_i32_1902 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1901 : BitVec 32 := 1#32
  let v4068 : BitVec 32 := Scalar.muli v7 c1_i32_1901
  let v4069 : BitVec 32 := Scalar.addi c0_i32_1902 v4068
  v4069.toNat
def k0_dev28 (d0 : Dev nD) : Nat :=
  let c0_i32_1926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1925 : BitVec 32 := 1#32
  let v4093 : BitVec 32 := Scalar.muli v4 c1_i32_1925
  let v4094 : BitVec 32 := Scalar.addi c0_i32_1926 v4093
  v4094.toNat
def k0_dev29 (d0 : Dev nD) : Nat :=
  let c0_i32_1951 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1950 : BitVec 32 := 1#32
  let v4119 : BitVec 32 := Scalar.muli v7 c1_i32_1950
  let v4120 : BitVec 32 := Scalar.addi c0_i32_1951 v4119
  v4120.toNat
def k0_dev30 (d0 : Dev nD) : Nat :=
  let c0_i32_1975 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1974 : BitVec 32 := 1#32
  let v4144 : BitVec 32 := Scalar.muli v4 c1_i32_1974
  let v4145 : BitVec 32 := Scalar.addi c0_i32_1975 v4144
  v4145.toNat
def k0_dev31 (d0 : Dev nD) : Nat :=
  let c0_i32_2000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1999 : BitVec 32 := 1#32
  let v4170 : BitVec 32 := Scalar.muli v7 c1_i32_1999
  let v4171 : BitVec 32 := Scalar.addi c0_i32_2000 v4170
  v4171.toNat
def k0_dev32 (d0 : Dev nD) : Nat :=
  let c0_i32_2024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2023 : BitVec 32 := 1#32
  let v4195 : BitVec 32 := Scalar.muli v4 c1_i32_2023
  let v4196 : BitVec 32 := Scalar.addi c0_i32_2024 v4195
  v4196.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale" => some (((Real.sqrt 128)⁻¹ : ℝ) : EReal)
  | _ => none
-- ==== ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S1x2048x16384 : Shape := ⟨3, ![1, 2048, 16384]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x128x2048x2048 : Shape := ⟨4, ![1, 128, 2048, 2048]⟩
abbrev S1x1x2048x2048 : Shape := ⟨4, ![1, 1, 2048, 2048]⟩
abbrev S1x128x2048 : Shape := ⟨3, ![1, 128, 2048]⟩
abbrev S1x128x2048x1 : Shape := ⟨4, ![1, 128, 2048, 1]⟩
abbrev S1x1x2048x1 : Shape := ⟨4, ![1, 1, 2048, 1]⟩
abbrev S1x128x128x2048 : Shape := ⟨4, ![1, 128, 128, 2048]⟩

abbrev nBuf : Space → Nat
  | .hbm => 68
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x16384, .bf16⟩
  | .hbm, ⟨2, _⟩ => ⟨S1x2048x128x128, .bf16⟩
  | .hbm, ⟨3, _⟩ => ⟨S1x2048x128x128, .bf16⟩
  | .hbm, ⟨4, _⟩ => ⟨S16384x1024, .bf16⟩
  | .hbm, ⟨5, _⟩ => ⟨S1x2048x1024, .f32⟩
  | .hbm, ⟨6, _⟩ => ⟨S1024x16384, .f32⟩
  | .hbm, ⟨7, _⟩ => ⟨S1x2048x128x128, .f32⟩
  | .hbm, ⟨8, _⟩ => ⟨S1x2048x128x128, .f32⟩
  | .hbm, ⟨9, _⟩ => ⟨S16384x1024, .f32⟩
  | .hbm, ⟨10, _⟩ => ⟨S1x2048x16384, .f32⟩
  | .hbm, ⟨11, _⟩ => ⟨S1x2048x16384, .bf16⟩
  | .hbm, ⟨12, _⟩ => ⟨S1x2048x16384, .f32⟩
  | .hbm, ⟨13, _⟩ => ⟨S1x2048x128x128, .f32⟩
  | .hbm, ⟨14, _⟩ => ⟨S2048, .i32⟩
  | .hbm, ⟨15, _⟩ => ⟨S2048x1, .i32⟩
  | .hbm, ⟨16, _⟩ => ⟨S2048, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i32⟩
  | .hbm, ⟨21, _⟩ => ⟨S2048x2048, .i32⟩
  | .hbm, ⟨22, _⟩ => ⟨S_, .i32⟩
  | .hbm, ⟨23, _⟩ => ⟨S2048x2048, .i32⟩
  | .hbm, ⟨24, _⟩ => ⟨S2048x2048, .i1⟩
  | .hbm, ⟨25, _⟩ => ⟨S1x128x2048x2048, .f32⟩
  | .hbm, ⟨26, _⟩ => ⟨S1x128x2048x2048, .bf16⟩
  | .hbm, ⟨27, _⟩ => ⟨S1x128x2048x2048, .f32⟩
  | .hbm, ⟨28, _⟩ => ⟨S_, .f32⟩
  | .hbm, ⟨29, _⟩ => ⟨S_, .f32⟩
  | .hbm, ⟨30, _⟩ => ⟨S1x128x2048x2048, .f32⟩
  | .hbm, ⟨31, _⟩ => ⟨S1x128x2048x2048, .f32⟩
  | .hbm, ⟨32, _⟩ => ⟨S1x1x2048x2048, .i1⟩
  | .hbm, ⟨33, _⟩ => ⟨S_, .f32⟩
  | .hbm, ⟨34, _⟩ => ⟨S_, .f32⟩
  | .hbm, ⟨35, _⟩ => ⟨S1x128x2048x2048, .i1⟩
  | .hbm, ⟨36, _⟩ => ⟨S1x128x2048x2048, .f32⟩
  | .hbm, ⟨37, _⟩ => ⟨S1x128x2048x2048, .f32⟩
  | .hbm, ⟨38, _⟩ => ⟨S_, .f32⟩
  | .hbm, ⟨39, _⟩ => ⟨S1x128x2048, .f32⟩
  | .hbm, ⟨40, _⟩ => ⟨S1x128x2048x1, .f32⟩
  | .hbm, ⟨41, _⟩ => ⟨S1x128x2048x2048, .f32⟩
  | .hbm, ⟨42, _⟩ => ⟨S1x128x2048x2048, .f32⟩
  | .hbm, ⟨43, _⟩ => ⟨S1x128x2048x2048, .f32⟩
  | .hbm, ⟨44, _⟩ => ⟨S_, .i1⟩
  | .hbm, ⟨45, _⟩ => ⟨S2048, .i1⟩
  | .hbm, ⟨46, _⟩ => ⟨S1x1x2048x1, .i1⟩
  | .hbm, ⟨47, _⟩ => ⟨S_, .f32⟩
  | .hbm, ⟨48, _⟩ => ⟨S1x128x2048, .f32⟩
  | .hbm, ⟨49, _⟩ => ⟨S1x128x2048x1, .f32⟩
  | .hbm, ⟨50, _⟩ => ⟨S_, .f32⟩
  | .hbm, ⟨51, _⟩ => ⟨S_, .f32⟩
  | .hbm, ⟨52, _⟩ => ⟨S1x128x2048x1, .i1⟩
  | .hbm, ⟨53, _⟩ => ⟨S1x128x2048x1, .f32⟩
  | .hbm, ⟨54, _⟩ => ⟨S1x128x2048x1, .f32⟩
  | .hbm, ⟨55, _⟩ => ⟨S1x128x2048x2048, .f32⟩
  | .hbm, ⟨56, _⟩ => ⟨S1x128x2048x2048, .f32⟩
  | .hbm, ⟨57, _⟩ => ⟨S1x1x2048x1, .i1⟩
  | .hbm, ⟨58, _⟩ => ⟨S_, .f32⟩
  | .hbm, ⟨59, _⟩ => ⟨S_, .f32⟩
  | .hbm, ⟨60, _⟩ => ⟨S1x128x2048x2048, .i1⟩
  | .hbm, ⟨61, _⟩ => ⟨S1x128x2048x2048, .f32⟩
  | .hbm, ⟨62, _⟩ => ⟨S1x128x2048x2048, .f32⟩
  | .hbm, ⟨63, _⟩ => ⟨S1x128x128x2048, .f32⟩
  | .hbm, ⟨64, _⟩ => ⟨S1x2048x128x128, .f32⟩
  | .hbm, ⟨65, _⟩ => ⟨S1x2048x16384, .f32⟩
  | .hbm, ⟨66, _⟩ => ⟨S1x2048x1024, .f32⟩
  | .hbm, ⟨67, _⟩ => ⟨S1x2048x1024, .bf16⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_2 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_5 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== Proof.Body.lean ====
/- The kernel body of one device, written as the rounds of its ring: the barrier, the attention of one
   row block, a reduce-scatter hop, an all-gather hop. `cc0_body_eq` says the printed body is that. -/
module

public import proofs.«01_k».proof.Proof.Gen.KernelIdeal.Skeleton

@[expose] public section

noncomputable section

namespace Cert.KernelIdeal.Ring

open Cert.KernelIdeal Cert.KernelIdeal.Gen
open Idealize.ShloMosaic Idealize.SL.Sem

variable {F : FTy → Type} [FloatOps F] [Named F]

/-! ## Values -/

/-- The first key row a row block reads, from its first row. -/
def keyRow (row0 : BitVec 32) : BitVec 32 :=
  Scalar.minsi 1664#32 (Scalar.maxsi 0#32 (Scalar.subi row0 128#32))

/-- The band mask of a row block, as a number added to the scores. -/
def biasV (row0 : BitVec 32) : FVec F S128x384 .bf16 :=
  truncf .bf16
    (select
      (cmpi .sle
        (absi (subi (addi (broadcast S128x384 row0) (iota .tc S128x384 32 [0] iota_S128x384_d0_w32))
          (addi (broadcast S128x384 (keyRow row0)) (iota .tc S128x384 32 [1] iota_S128x384_d1_w32))))
        (broadcast S128x384 128#32))
      (broadcast S128x384 (Scalar.ofBits .f32 0x00000000#32 : F .f32))
      (broadcast S128x384 (Named.named κ "mask" 0xCE6E6B28#32 : F .f32)))
    bitsLt_bf16_f32

/-- The queries of a row block, all heads of the device. -/
def queryV (x : Vec F S128x1024 .bf16) (wq : Vec F S1024x1024 .bf16) : FVec F S128x1024 .bf16 :=
  truncf .bf16
    (matmul dot_S128x1024_S1024x1024_S128x1024_1_0_0_1_n_n none
      (shapeCast S128x1024 x shapeCasts_S128x1024_S128x1024 : FVec F S128x1024 .bf16)
      (shapeCast S1024x1024 wq shapeCasts_S1024x1024_S1024x1024 : FVec F S1024x1024 .bf16)
      (constant S128x1024 .f32 0x00000000#32 : FVec F S128x1024 .f32)) bitsLt_bf16_f32

/-- The unnormalised weights of one head. -/
def weightV (q : FVec F S128x128 .bf16) (bias : FVec F S128x384 .bf16) (k : Vec F S384x128 .bf16) :
    FVec F S128x384 .bf16 :=
  exp (addf (mulf
    (truncf .bf16
      (matmul dot_S128x128_S384x128_S128x384_1_1_0_0_n_n none q
        (shapeCast S384x128 k shapeCasts_S384x128_S384x128 : FVec F S384x128 .bf16)
        (constant S128x384 .f32 0x00000000#32 : FVec F S128x384 .f32)) bitsLt_bf16_f32)
    (broadcast S128x384 (Named.named κ "scale" 0x3DB5#16 : F .bf16))) bias)

/-- One head's context rows. -/
def headV (q : FVec F S128x128 .bf16) (bias : FVec F S128x384 .bf16) (k v : Vec F S384x128 .bf16) :
    FVec F S128x128 .bf16 :=
  truncf .bf16
    (mulf
      (matmul dot_S128x384_S384x128_S128x128_1_0_0_1_n_n none (weightV q bias k)
        (shapeCast S384x128 v shapeCasts_S384x128_S384x128 : FVec F S384x128 .bf16)
        (constant S128x128 .f32 0x00000000#32 : FVec F S128x128 .f32))
      (broadcastTo S128x128
        (divf (broadcast S128x1 (Scalar.ofBits .f32 0x3F800000#32 : F .f32))
          (shapeCast S128x1
            (multiReduction .add [1] S128 (extf .f32 (weightV q bias k) bitsLt_bf16_f32 : FVec F S128x384 .f32)
              0x00000000#32 reduces_S128x384_S128 (.inl rfl) rfl : FVec F S128 .f32)
            shapeCasts_S128_S128x1 : FVec F S128x1 .f32))
        broadcasts_S128x1_S128x128)) bitsLt_bf16_f32

/-- The device's share of one row block of the output. -/
def blockV (row0 : BitVec 32) (x : Vec F S128x1024 .bf16) (wq : Vec F S1024x1024 .bf16)
    (k0 v0 k1 v1 k2 v2 k3 v3 k4 v4 k5 v5 k6 v6 k7 v7 : Vec F S384x128 .bf16)
    (wo : Vec F S1024x1024 .bf16) : FVec F S128x1024 .bf16 :=
  truncf .bf16
    (matmul dot_S128x1024_S1024x1024_S128x1024_1_0_0_1_n_n none
      (concatenate S128x1024 1
        [⟨S128x128, headV (extractStridedSlice S128x128 ![0, 0] (queryV x wq) slices_S128x1024_o0_0_S128x128) (biasV row0) k0 v0⟩,
         ⟨S128x128, headV (extractStridedSlice S128x128 ![0, 128] (queryV x wq) slices_S128x1024_o0_128_S128x128) (biasV row0) k1 v1⟩,
         ⟨S128x128, headV (extractStridedSlice S128x128 ![0, 256] (queryV x wq) slices_S128x1024_o0_256_S128x128) (biasV row0) k2 v2⟩,
         ⟨S128x128, headV (extractStridedSlice S128x128 ![0, 384] (queryV x wq) slices_S128x1024_o0_384_S128x128) (biasV row0) k3 v3⟩,
         ⟨S128x128, headV (extractStridedSlice S128x128 ![0, 512] (queryV x wq) slices_S128x1024_o0_512_S128x128) (biasV row0) k4 v4⟩,
         ⟨S128x128, headV (extractStridedSlice S128x128 ![0, 640] (queryV x wq) slices_S128x1024_o0_640_S128x128) (biasV row0) k5 v5⟩,
         ⟨S128x128, headV (extractStridedSlice S128x128 ![0, 768] (queryV x wq) slices_S128x1024_o0_768_S128x128) (biasV row0) k6 v6⟩,
         ⟨S128x128, headV (extractStridedSlice S128x128 ![0, 896] (queryV x wq) slices_S128x1024_o0_896_S128x128) (biasV row0) k7 v7⟩]
        concatenates_S128x128_S128x128_S128x128_S128x128_S128x128_S128x128_S128x128_S128x128_S128x1024_d1 : FVec F S128x1024 .bf16)
      (shapeCast S1024x1024 wo shapeCasts_S1024x1024_S1024x1024 : FVec F S1024x1024 .bf16)
      (constant S128x1024 .f32 0x00000000#32 : FVec F S128x1024 .f32)) bitsLt_bf16_f32

/-- A partial sum one hop further on. -/
def addV (p : FVec F S128x1024 .bf16) (r : Vec F S1x128x1024 .bf16) : FVec F S128x1024 .bf16 :=
  addf p (shapeCast S128x1024 r shapeCasts_S1x128x1024_S128x1024)

/-- A block as one slot of the staging buffer. -/
def slotV (p : FVec F S128x1024 .bf16) : FVec F S1x128x1024 .bf16 :=
  shapeCast S1x128x1024 p shapeCasts_S128x1024_S1x128x1024

/-! ## Row words, devices, slots -/

/-- The mesh coordinate word. -/
abbrev meW (c : Dev nD) : BitVec 32 := Scalar.remsi (Scalar.divsi (Dev.word c) 1#32) 16#32
/-- The first row of the first block a device computes. -/
abbrev rowA (c : Dev nD) : BitVec 32 := Scalar.muli (Scalar.remsi (Scalar.addi (meW c) 32#32) 16#32) 128#32
/-- The first row of the second block. -/
abbrev rowB (c : Dev nD) : BitVec 32 :=
  Scalar.muli (Scalar.remsi (Scalar.addi (Scalar.subi (meW c) 1#32) 32#32) 16#32) 128#32
/-- The first row of the block computed behind hop `s`. -/
abbrev rowC (c : Dev nD) (s : BitVec 32) : BitVec 32 :=
  Scalar.muli (Scalar.remsi (Scalar.addi (Scalar.subi (Scalar.subi (meW c) 2#32) s) 32#32) 16#32) 128#32

abbrev right (c : Dev nD) : Dev nD := ⟨k0_dev3 c, k0_dev3_lt c⟩
abbrev left (c : Dev nD) : Dev nD := ⟨k0_dev1 c, k0_dev1_lt c⟩

/-- A row word at which a block of 128 rows fits. -/
abbrev RowOk (row0 : BitVec 32) : Prop := ∀ a, (![(Scalar.indexCast row0).toNat, 0] : Fin 2 → Nat) a + S128x1024.size a ≤ S2048x1024.size a
/-- The key rows of a block fit. -/
abbrev KeyOk (row0 : BitVec 32) : Prop := ∀ (h : Fin 8) (a : Fin 2), (![(Scalar.indexCast (keyRow row0)).toNat, 128 * h.val] : Fin 2 → Nat) a + S384x128.size a ≤ S2048x1024.size a

theorem rowOkA (c : Dev nD) : RowOk (rowA c) := by revert c; decide +kernel
theorem rowOkB (c : Dev nD) : RowOk (rowB c) := by revert c; decide +kernel
theorem rowOkC (c : Dev nD) (s : Fin 14) : RowOk (rowC c (BitVec.ofNat 32 s.val)) := by
  revert s; revert c; decide +kernel
theorem keyOkA (c : Dev nD) : KeyOk (rowA c) := by revert c; decide +kernel
theorem keyOkB (c : Dev nD) : KeyOk (rowB c) := by revert c; decide +kernel
theorem keyOkC (c : Dev nD) (s : Fin 14) : KeyOk (rowC c (BitVec.ofNat 32 s.val)) := by
  revert s; revert c; decide +kernel

theorem slot_inb (s : Fin 15) (a : Fin 3) :
    (![s.val, 0, 0] : Fin 3 → Nat) a + S1x128x1024.size a ≤ S15x128x1024.size a := by
  revert a; revert s; decide +kernel
theorem slot_words (s : Fin 15) :
    (Rect.unit (s := S15x128x1024) ![s.val, 0, 0] S1x128x1024.size (slot_inb s)).WholeWords (EltTy.packing .bf16) := by
  revert s; decide +kernel
theorem slot_packed (s : Fin 15) :
    (Rect.unit (s := S15x128x1024) ![s.val, 0, 0] S1x128x1024.size (slot_inb s)).PackedRows (EltTy.packing .bf16) := by
  revert s; decide +kernel
theorem sem15_inb (s : Fin 15) (a : Fin 1) : (![s.val] : Fin 1 → Nat) a + S1.size a ≤ S15.size a := by
  revert a; revert s; decide +kernel
theorem sem8_inb (s : Fin 8) (a : Fin 1) : (![s.val] : Fin 1 → Nat) a + S1.size a ≤ S8.size a := by
  revert a; revert s; decide +kernel
theorem sem7_inb (s : Fin 7) (a : Fin 1) : (![s.val] : Fin 1 → Nat) a + S1.size a ≤ S7.size a := by
  revert a; revert s; decide +kernel

/-- The rectangle of slot `s` of a ring buffer. -/
abbrev slotR (s : Fin 15) : Rect S15x128x1024 :=
  Rect.unit (s := S15x128x1024) ![s.val, 0, 0] S1x128x1024.size (slot_inb s)
/-- Slot `s` of a ring buffer, as a block. -/
abbrev slotM (m : Memref sig .tc .vmem S15x128x1024 .bf16) (s : Fin 15) : Memref sig .tc .vmem S128x1024 .bf16 :=
  (m.slice (slotR s) (fun _ => rfl)).squeeze S128x1024 squeezes_S1x128x1024_S128x1024
abbrev sem15 (m : DmaSems sig S15) (s : Fin 15) : DmaSem sig :=
  ((m.slice (Rect.unit (s := S15) ![s.val] S1.size (sem15_inb s))).squeeze S_ squeezes_S1_S_).sem
abbrev sem8 (m : DmaSems sig S8) (s : Fin 8) : DmaSem sig :=
  ((m.slice (Rect.unit (s := S8) ![s.val] S1.size (sem8_inb s))).squeeze S_ squeezes_S1_S_).sem
abbrev sem7 (m : DmaSems sig S7) (s : Fin 7) : DmaSem sig :=
  ((m.slice (Rect.unit (s := S7) ![s.val] S1.size (sem7_inb s))).squeeze S_ squeezes_S1_S_).sem

/-! ## The rounds -/

abbrev Code (F : FTy → Type) (α : Type) := Prog (TpuEff nD τ sig (Elt F) Λ₀ .tc) α

section Rounds

variable (arg0 : Memref sig .tc .vmem S2048x1024 .bf16) (harg0 : arg0.IsWhole)
  (arg1 : Memref sig .tc .vmem S1024x1024 .bf16) (harg1 : arg1.IsWhole)
  (arg2 : Memref sig .tc .vmem S2048x1024 .bf16) (harg2 : arg2.IsWhole)
  (arg3 : Memref sig .tc .vmem S2048x1024 .bf16) (harg3 : arg3.IsWhole)
  (arg4 : Memref sig .tc .vmem S1024x1024 .bf16) (harg4 : arg4.IsWhole)
  (arg5 : Memref sig .tc .vmem S2048x1024 .bf16) (harg5 : arg5.IsWhole)
  (arg6 : Memref sig .tc .vmem S15x128x1024 .bf16) (harg6 : arg6.IsWhole)
  (arg7 : Memref sig .tc .vmem S15x128x1024 .bf16) (harg7 : arg7.IsWhole)
  (arg8 arg9 : DmaSems sig S15) (arg10 arg11 : DmaSems sig S8) (arg12 arg13 : DmaSems sig S7)

/-- The eight heads' keys (or values) of a block start here. -/
abbrev keyR (row0 : BitVec 32) (hk : KeyOk row0) (h : Fin 8) : Rect S2048x1024 :=
  Rect.unit (s := S2048x1024) ![(Scalar.indexCast (keyRow row0)).toNat, 128 * h.val] S384x128.size (hk h)

def ldKey (m : Memref sig .tc .vmem S2048x1024 .bf16) (row0 : BitVec 32) (hk : KeyOk row0) (h : Fin 8) :
    Code F (Vec F S384x128 .bf16) :=
  Prog.lift (.load m (keyR row0 hk h).toLoadRect (View.loadsAt_vmem h_S384x128))

/-- Compute one row block of the output, this device's heads. -/
def attend (row0 : BitVec 32) (hx : RowOk row0) (hk : KeyOk row0) : Code F (FVec F S128x1024 .bf16) := do
  let x : Vec F S128x1024 .bf16 ← Prog.lift (.load arg0 (Rect.unit (s := S2048x1024) ![(Scalar.indexCast row0).toNat, 0] S128x1024.size hx).toLoadRect (View.loadsAt_vmem h_S128x1024))
  let wq : Vec F S1024x1024 .bf16 ← Prog.lift (.load arg1 (Rect.unit (s := S1024x1024) ![0, 0] S1024x1024.size inb_S1024x1024_S1024x1024_0_0).toLoadRect (View.loadsAt_vmem h_S1024x1024))
  let k0 ← ldKey arg2 row0 hk 0
  let v0 ← ldKey arg3 row0 hk 0
  let k1 ← ldKey arg2 row0 hk 1
  let v1 ← ldKey arg3 row0 hk 1
  let k2 ← ldKey arg2 row0 hk 2
  let v2 ← ldKey arg3 row0 hk 2
  let k3 ← ldKey arg2 row0 hk 3
  let v3 ← ldKey arg3 row0 hk 3
  let k4 ← ldKey arg2 row0 hk 4
  let v4 ← ldKey arg3 row0 hk 4
  let k5 ← ldKey arg2 row0 hk 5
  let v5 ← ldKey arg3 row0 hk 5
  let k6 ← ldKey arg2 row0 hk 6
  let v6 ← ldKey arg3 row0 hk 6
  let k7 ← ldKey arg2 row0 hk 7
  let v7 ← ldKey arg3 row0 hk 7
  let wo : Vec F S1024x1024 .bf16 ← Prog.lift (.load arg4 (Rect.unit (s := S1024x1024) ![0, 0] S1024x1024.size inb_S1024x1024_S1024x1024_0_0).toLoadRect (View.loadsAt_vmem h_S1024x1024))
  pure (blockV row0 x wq k0 v0 k1 v1 k2 v2 k3 v3 k4 v4 k5 v5 k6 v6 k7 v7 wo)

/-- Put a partial sum into slot `s` of the staging buffer and send it to the right. -/
def send (c : Dev nD) (s : Fin 15) (p : FVec F S128x1024 .bf16) : Code F PUnit := do
  let _ : Vec F S1x128x1024 .bf16 ← Prog.lift (.load arg6 (slotR s).toLoadRect (View.loadsAt_vmem h_S1x128x1024))
  Prog.lift (.store arg6 (slotR s) (slotV p) Finset.univ (View.stores_vmem h_S1x128x1024 (harg6.storeExact_slice rfl _ (slot_packed s)) (fun _ => rfl)) (.inl rfl))
  Prog.lift (.enqueueDma (slotM arg6 s) (.remote (Dev.tc (right c)) (slotM arg7 s) (.dma (sem15 arg8 s))) (.dma (sem15 arg9 s)) ((harg6.wordExact_slice rfl _ (slot_words s)).reshape _ _) ((harg7.wordExact_slice rfl _ (slot_words s)).reshape _ _) ⟨⟨rfl, Or.inl rfl⟩, trivial⟩)

/-- Wait for hop `s` and read what came. -/
def receive (s : Fin 15) : Code F (Vec F S1x128x1024 .bf16) := do
  Prog.lift (.waitDma2 (sem15 arg8 s) (slotM arg7 s) (slotM arg6 s) ((harg7.wordExact_slice rfl _ (slot_words s)).reshape _ _) ((harg6.wordExact_slice rfl _ (slot_words s)).reshape _ _))
  Prog.lift (.waitDma2 (sem15 arg9 s) (slotM arg6 s) (slotM arg7 s) ((harg6.wordExact_slice rfl _ (slot_words s)).reshape _ _) ((harg7.wordExact_slice rfl _ (slot_words s)).reshape _ _))
  Prog.lift (.load arg7 (slotR s).toLoadRect (View.loadsAt_vmem h_S1x128x1024))

/-- A hop: receive hop `s`, add the pending block, send the sum as hop `s + 1`, and compute the next block. -/
def hop (c : Dev nD) (s : Fin 14) (p : FVec F S128x1024 .bf16) : Code F (FVec F S128x1024 .bf16) := do
  let r ← receive arg6 harg6 arg7 harg7 arg8 arg9 s.castSucc
  send arg6 harg6 arg7 harg7 arg8 arg9 c s.succ (addV p r)
  attend arg0 arg1 arg2 arg3 arg4 (rowC c (BitVec.ofNat 32 s.val)) (rowOkC c s) (keyOkC c s)

def enter (c : Dev nD) : Code F PUnit := do
  semSignalWord (left c) (SemArray.scalar (sig.barrier 0 rfl) : Sems sig S_).sem 1#32
  semSignalWord (right c) (SemArray.scalar (sig.barrier 0 rfl) : Sems sig S_).sem 1#32
  semWaitWord (SemArray.scalar (sig.barrier 0 rfl) : Sems sig S_).sem 2#32

/-- Add the last partial sum and put the finished row block into the result. -/
def finish (c : Dev nD) (p : FVec F S128x1024 .bf16) : Code F PUnit := do
  let r ← receive arg6 harg6 arg7 harg7 arg8 arg9 14
  let _ : Vec F S128x1024 .bf16 ← Prog.lift (.load arg5 (Rect.unit (s := S2048x1024) (k0_off28 c) S128x1024.size (k0_off28_inb c)).toLoadRect (View.loadsAt_vmem h_S128x1024))
  Prog.lift (.store arg5 (Rect.unit (s := S2048x1024) (k0_off28 c) S128x1024.size (k0_off28_inb c)) (addV p r) Finset.univ (View.stores_vmem h_S128x1024 (harg5.storeExact_slice rfl _ (k0_off28_packedbf16 c)) (fun _ => rfl)) (.inl rfl))

/-- A rectangle of the result that a copy moves whole. -/
structure Chunk where
  off : Fin 2 → Nat
  inb : ∀ a, off a + S128x1024.size a ≤ S2048x1024.size a
  words : (Rect.unit (s := S2048x1024) off S128x1024.size inb).WholeWords (EltTy.packing .bf16)

/-- The chunk of the result this device finishes. -/
abbrev chunkM (c : Dev nD) : Chunk := ⟨k0_off29 c, k0_off29_inb c, k0_off29_wordsbf16 c⟩
/-- The chunk sent to the right as all-gather hop `s + 1`. -/
abbrev chunkR (c : Dev nD) (s : Fin 7) : Chunk :=
  ⟨k0_off30 c (BitVec.ofNat 32 s.val), k0_off30_inb c s, k0_off30_wordsbf16 c s⟩
/-- The chunk sent to the left as all-gather hop `s + 1`. -/
abbrev chunkL (c : Dev nD) (s : Fin 6) : Chunk :=
  ⟨k0_off31 c (BitVec.ofNat 32 s.val), k0_off31_inb c s, k0_off31_wordsbf16 c s⟩

abbrev chunkOf (m : Memref sig .tc .vmem S2048x1024 .bf16) (k : Chunk) : Memref sig .tc .vmem S128x1024 .bf16 :=
  m.slice (Rect.unit (s := S2048x1024) k.off S128x1024.size k.inb) (fun _ => rfl)

def gatherSend (d : Dev nD) (ss rs : DmaSem sig) (k : Chunk) : Code F PUnit :=
  Prog.lift (.enqueueDma (chunkOf arg5 k) (.remote (Dev.tc d) (chunkOf arg5 k) (.dma ss)) (.dma rs) (harg5.wordExact_slice rfl _ k.words) (harg5.wordExact_slice rfl _ k.words) ⟨⟨rfl, Or.inl rfl⟩, trivial⟩)

def gatherWait (ss rs : DmaSem sig) (k : Chunk) : Code F PUnit := do
  Prog.lift (.waitDma2 ss (chunkOf arg5 k) (chunkOf arg5 k) (harg5.wordExact_slice rfl _ k.words) (harg5.wordExact_slice rfl _ k.words))
  Prog.lift (.waitDma2 rs (chunkOf arg5 k) (chunkOf arg5 k) (harg5.wordExact_slice rfl _ k.words) (harg5.wordExact_slice rfl _ k.words))

/-- The two copies of the finished chunk, and the first step of the all-gather. -/
def gatherFirst (c : Dev nD) : Code F PUnit := do
  gatherSend arg5 harg5 (right c) (sem8 arg10 0) (sem8 arg11 0) (chunkM c)
  gatherSend arg5 harg5 (left c) (sem7 arg12 0) (sem7 arg13 0) (chunkM c)
  gatherWait arg5 harg5 (sem8 arg10 0) (sem8 arg11 0) (chunkM c)
  gatherSend arg5 harg5 (right c) (sem8 arg10 1) (sem8 arg11 1) (chunkR c 0)
  gatherWait arg5 harg5 (sem7 arg12 0) (sem7 arg13 0) (chunkM c)
  gatherSend arg5 harg5 (left c) (sem7 arg12 1) (sem7 arg13 1) (chunkL c 0)

/-- All-gather step `s + 1`: both directions. -/
def gatherStep (c : Dev nD) (s : Fin 5) : Code F PUnit := do
  gatherWait arg5 harg5 (sem8 arg10 ⟨s.val + 1, by omega⟩) (sem8 arg11 ⟨s.val + 1, by omega⟩) (chunkR c ⟨s.val, by omega⟩)
  gatherSend arg5 harg5 (right c) (sem8 arg10 ⟨s.val + 2, by omega⟩) (sem8 arg11 ⟨s.val + 2, by omega⟩) (chunkR c ⟨s.val + 1, by omega⟩)
  gatherWait arg5 harg5 (sem7 arg12 ⟨s.val + 1, by omega⟩) (sem7 arg13 ⟨s.val + 1, by omega⟩) (chunkL c ⟨s.val, by omega⟩)
  gatherSend arg5 harg5 (left c) (sem7 arg12 ⟨s.val + 2, by omega⟩) (sem7 arg13 ⟨s.val + 2, by omega⟩) (chunkL c ⟨s.val + 1, by omega⟩)

/-- The last steps: the right direction has one hop more. -/
def gatherLast (c : Dev nD) : Code F PUnit := do
  gatherWait arg5 harg5 (sem8 arg10 6) (sem8 arg11 6) (chunkR c 5)
  gatherSend arg5 harg5 (right c) (sem8 arg10 7) (sem8 arg11 7) (chunkR c 6)
  gatherWait arg5 harg5 (sem7 arg12 6) (sem7 arg13 6) (chunkL c 5)
  gatherWait arg5 harg5 (sem8 arg10 7) (sem8 arg11 7) (chunkR c 6)

/-- The body as its rounds. -/
def body : Code F PUnit := do
  let c : Dev nD ← Prog.lift .deviceId
  enter c
  let p0 ← attend arg0 arg1 arg2 arg3 arg4 (rowA c) (rowOkA c) (keyOkA c)
  send arg6 harg6 arg7 harg7 arg8 arg9 c 0 p0
  let p1 ← attend arg0 arg1 arg2 arg3 arg4 (rowB c) (rowOkB c) (keyOkB c)
  let p2 ← hop arg0 arg1 arg2 arg3 arg4 arg6 harg6 arg7 harg7 arg8 arg9 c 0 p1
  let p3 ← hop arg0 arg1 arg2 arg3 arg4 arg6 harg6 arg7 harg7 arg8 arg9 c 1 p2
  let p4 ← hop arg0 arg1 arg2 arg3 arg4 arg6 harg6 arg7 harg7 arg8 arg9 c 2 p3
  let p5 ← hop arg0 arg1 arg2 arg3 arg4 arg6 harg6 arg7 harg7 arg8 arg9 c 3 p4
  let p6 ← hop arg0 arg1 arg2 arg3 arg4 arg6 harg6 arg7 harg7 arg8 arg9 c 4 p5
  let p7 ← hop arg0 arg1 arg2 arg3 arg4 arg6 harg6 arg7 harg7 arg8 arg9 c 5 p6
  let p8 ← hop arg0 arg1 arg2 arg3 arg4 arg6 harg6 arg7 harg7 arg8 arg9 c 6 p7
  let p9 ← hop arg0 arg1 arg2 arg3 arg4 arg6 harg6 arg7 harg7 arg8 arg9 c 7 p8
  let p10 ← hop arg0 arg1 arg2 arg3 arg4 arg6 harg6 arg7 harg7 arg8 arg9 c 8 p9
  let p11 ← hop arg0 arg1 arg2 arg3 arg4 arg6 harg6 arg7 harg7 arg8 arg9 c 9 p10
  let p12 ← hop arg0 arg1 arg2 arg3 arg4 arg6 harg6 arg7 harg7 arg8 arg9 c 10 p11
  let p13 ← hop arg0 arg1 arg2 arg3 arg4 arg6 harg6 arg7 harg7 arg8 arg9 c 11 p12
  let p14 ← hop arg0 arg1 arg2 arg3 arg4 arg6 harg6 arg7 harg7 arg8 arg9 c 12 p13
  let p15 ← hop arg0 arg1 arg2 arg3 arg4 arg6 harg6 arg7 harg7 arg8 arg9 c 13 p14
  finish arg5 harg5 arg6 harg6 arg7 harg7 arg8 arg9 c p15
  gatherFirst arg5 harg5 arg10 arg11 arg12 arg13 c
  gatherStep arg5 harg5 arg10 arg11 arg12 arg13 c 0
  gatherStep arg5 harg5 arg10 arg11 arg12 arg13 c 1
  gatherStep arg5 harg5 arg10 arg11 arg12 arg13 c 2
  gatherStep arg5 harg5 arg10 arg11 arg12 arg13 c 3
  gatherStep arg5 harg5 arg10 arg11 arg12 arg13 c 4
  gatherLast arg5 harg5 arg10 arg11 arg12 arg13 c

end Rounds

end Cert.KernelIdeal.Ring
-- ==== Proof.Sched.lean ====
/- The schedule of the ring: thirty transfers in the order a device starts them, the cell each is counted
   on, what each hands over, and what a device owes when it starts.

   Transfer `k` of device `c`, for `k < 15`, is hop `k` of the reduce-scatter, to the right neighbour. After
   that odd `k` are the all-gather's hops to the right and even `k` its hops to the left. -/
module

public import proofs.«01_k».proof.Proof.Body
public import proofs.«01_k».proof.Proof.Gen.KernelIdeal.Launch
public import Idealize.ShloMosaic.Lib.Pipeline.Regions
public import Idealize.ShloMosaic.Lib.Pipeline.Kit
public import Idealize.ShloMosaic.Lib.Pipeline.RegionTalk
public import Idealize.ShloMosaic.Lib.Rounds
public import Idealize.ShloMosaic.Lib.Tactic

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The ring -/

theorem left_right : ∀ c : Dev nD, left (right c) = c := by decide +kernel
theorem right_left : ∀ c : Dev nD, right (left c) = c := by decide +kernel
def ring : Dev nD ≃ Dev nD := ⟨right, left, left_right, right_left⟩

/-- Whether transfer `k` goes to the right neighbour. -/
def goesR (k : Fin 30) : Bool := decide (k.val < 15) || decide (k.val % 2 = 1)
/-- Who receives transfer `k` of `c`. -/
def tgt (c : Dev nD) (k : Fin 30) : Dev nD := if goesR k then right c else left c
/-- Who sends transfer `k` to `c`. -/
def from_ (c : Dev nD) (k : Fin 30) : Dev nD := if goesR k then left c else right c
theorem tgt_from (c : Dev nD) (k : Fin 30) : tgt (from_ c k) k = c := by
  unfold tgt from_; split <;> simp [left_right, right_left]
theorem from_tgt (c : Dev nD) (k : Fin 30) : from_ (tgt c k) k = c := by
  unfold tgt from_; split <;> simp [left_right, right_left]
def tgtE (k : Fin 30) : Dev nD ≃ Dev nD := ⟨fun c => tgt c k, fun c => from_ c k, fun c => from_tgt c k, fun c => tgt_from c k⟩

/-! ## The cells -/

def barS : Sem sig := (SemArray.scalar (sig.barrier 0 rfl) : Sems sig S_).sem

def ssemN (k : Fin 30) : ℕ := if k.val < 15 then 6 + k.val else if k.val % 2 = 1 then 36 + (k.val - 15) / 2 else 52 + (k.val - 16) / 2
def rsemN (k : Fin 30) : ℕ := if k.val < 15 then 21 + k.val else if k.val % 2 = 1 then 44 + (k.val - 15) / 2 else 59 + (k.val - 16) / 2
theorem ssemN_lt : ∀ k, ssemN k < 66 := by decide +kernel
theorem rsemN_lt : ∀ k, rsemN k < 66 := by decide +kernel
/-- Where the sender is told that transfer `k` has left. -/
def ssem (k : Fin 30) : DmaSem sig := ⟨ssemN k, ssemN_lt k⟩
/-- Where the receiver is told that transfer `k` has come. -/
def rsem (k : Fin 30) : DmaSem sig := ⟨rsemN k, rsemN_lt k⟩

def sidx (d : DmaSem sig) : Option (Fin 30) := (List.finRange 30).find? (fun k => decide (ssem k = d))
def ridx (d : DmaSem sig) : Option (Fin 30) := (List.finRange 30).find? (fun k => decide (rsem k = d))
theorem sidx_ssem : ∀ k, sidx (ssem k) = some k := by decide +kernel
theorem sidx_rsem : ∀ k, sidx (rsem k) = none := by decide +kernel
theorem ridx_rsem : ∀ k, ridx (rsem k) = some k := by decide +kernel
theorem ridx_ssem : ∀ k, ridx (ssem k) = none := by decide +kernel

abbrev barCell (c : Dev nD) : GSem nD τ sig := ((c : Thread nD τ), .reg barS)
abbrev scell (c : Dev nD) (k : Fin 30) : GSem nD τ sig := ((c : Thread nD τ), .dma (ssem k))
abbrev rcell (c : Dev nD) (k : Fin 30) : GSem nD τ sig := ((c : Thread nD τ), .dma (rsem k))

/-! ## The blocks the transfers move -/

abbrev stgM : Memref sig .tc .vmem S15x128x1024 .bf16 := Memref.whole cc0_scratch0
abbrev rcvM : Memref sig .tc .vmem S15x128x1024 .bf16 := Memref.whole cc0_scratch1
abbrev outM : Memref sig .tc .vmem S2048x1024 .bf16 := Memref.whole cc0_stg5_0

theorem chunk_inb (j : Fin 16) (a : Fin 2) : (![128 * j.val, 0] : Fin 2 → ℕ) a + S128x1024.size a ≤ S2048x1024.size a := by
  revert a; revert j; decide +kernel
theorem chunk_words (j : Fin 16) :
    (Rect.unit (s := S2048x1024) ![128 * j.val, 0] S128x1024.size (chunk_inb j)).WholeWords (EltTy.packing .bf16) := by
  revert j; decide +kernel
/-- Row block `j` of the result. -/
abbrev chunkJ (j : Fin 16) : Chunk := ⟨![128 * j.val, 0], chunk_inb j, chunk_words j⟩
theorem Chunk.ext' {a b : Chunk} (h : a.off = b.off) : a = b := by cases a; cases b; cases h; rfl

/-- The row block that transfer `k ≥ 15` of `c` carries. -/
def outIdx (c : Dev nD) (k : Fin 30) : Fin 16 :=
  if k.val % 2 = 1 then ⟨(c.val + 1 + 16 - (k.val - 15) / 2) % 16, Nat.mod_lt _ (by decide)⟩
  else ⟨(c.val + 1 + (k.val - 16) / 2) % 16, Nat.mod_lt _ (by decide)⟩
/-- The row block that comes to `c` with transfer `k ≥ 15`. -/
def inIdx (c : Dev nD) (k : Fin 30) : Fin 16 := outIdx (from_ c k) k
theorem inIdx_tgt (c : Dev nD) (k : Fin 30) : inIdx (tgt c k) k = outIdx c k := by unfold inIdx; rw [from_tgt]

/-- What transfer `k` of `c` reads, -/
def srcM (c : Dev nD) (k : Fin 30) : Memref sig .tc .vmem S128x1024 .bf16 :=
  if h : k.val < 15 then slotM stgM ⟨k.val, h⟩ else chunkOf outM (chunkJ (outIdx c k))
/-- and what transfer `k` to `d` writes. -/
def dstM (d : Dev nD) (k : Fin 30) : Memref sig .tc .vmem S128x1024 .bf16 :=
  if h : k.val < 15 then slotM rcvM ⟨k.val, h⟩ else chunkOf outM (chunkJ (inIdx d k))

/-- What one transfer counts for. -/
abbrev N : ℕ := (slotM rcvM 0).view.dmaCredit
theorem N_pos : 0 < N := View.dmaCredit_pos _ (by decide)
theorem credit_slot_stg (s : Fin 15) : (slotM stgM s).view.dmaCredit = N := rfl
theorem credit_slot_rcv (s : Fin 15) : (slotM rcvM s).view.dmaCredit = N := rfl
theorem credit_chunk (k : Chunk) : (chunkOf outM k).view.dmaCredit = N := rfl
theorem credit_dst (d : Dev nD) (k : Fin 30) : (dstM d k).view.dmaCredit = N := by unfold dstM; split <;> rfl

/-! ## The schedule -/

abbrev UU : Type := UR sig nD τ × URounds (GSem nD τ sig) Bool
local notation "𝕄" => MT nD τ sig Unit (Elt F) ℕ UU ℕ
abbrev EP : Emb (UR sig nD τ) (MT nD τ sig Unit (Elt F) ℕ UU ℕ) := embL
abbrev ER : Emb (URounds (GSem nD τ sig) Bool) (MT nD τ sig Unit (Elt F) ℕ UU ℕ) := embR

/-- The finished block is read by its two copies at once. -/
def qOf (k : Fin 30) : PosShare TreeShare :=
  if k.val = 15 then (fullShare : PosShare TreeShare).left else if k.val = 16 then (fullShare : PosShare TreeShare).right else fullShare

variable (val : Dev nD → Fin 30 → FVec F S128x1024 .bf16)

/-- Handed back to the sender: the block it read. -/
def sendPay (c : Dev nD) (k : Fin 30) : sProp 𝕄 := owns (c : Thread nD τ) (srcM c k) (qOf k) (val c k)
/-- Handed to the receiver: the block written, at what the sender held. -/
def recvPay (c : Dev nD) (k : Fin 30) : sProp 𝕄 := owns (c : Thread nD τ) (dstM c k) fullShare (val (from_ c k) k)
/-- The block that transfer `k` to `d` overwrites, at any contents. -/
def landAny (d : Dev nD) (k : Fin 30) : sProp 𝕄 :=
  iprop(∃ f, ((dstM d k).view.loc (d : Thread nD τ) ↦[(dstM d k).view.set]{fullShare} f))
/-- What the sender of transfer `k` of `c` is given before: the block at the receiver, and that the receiver's cell is open. -/
def grant (c : Dev nD) (k : Fin 30) : sProp 𝕄 := iprop(landAny (tgt c k) k ∗ reached ER (rcell (tgt c k) k) 0)
/-- With the right neighbour's signal (`false`) come the grants for transfers to the right, with the left's those to the left. -/
def barPay (c : Dev nD) (b : Bool) : sProp 𝕄 :=
  bigSep (Finset.univ.filter fun k => goesR k = !b) (fun k => grant c k)

instance landAny_storable (d : Dev nD) (k : Fin 30) : BI.Storable (upEmb : UEmb _ 𝕄) (landAny d k) := by unfold landAny; infer_instance
instance grant_storable (d : Dev nD) (k : Fin 30) : BI.Storable (upEmb : UEmb _ 𝕄) (grant (F := F) d k) := by unfold grant; infer_instance
instance barPay_storable (d : Dev nD) (b : Bool) : BI.Storable (upEmb : UEmb _ 𝕄) (barPay (F := F) d b) := by unfold barPay; infer_instance
instance sendPay_storable (d : Dev nD) (k : Fin 30) : BI.Storable (upEmb : UEmb _ 𝕄) (sendPay val d k) := by unfold sendPay; infer_instance
instance recvPay_storable (d : Dev nD) (k : Fin 30) : BI.Storable (upEmb : UEmb _ 𝕄) (recvPay val d k) := by unfold recvPay; infer_instance

def dutiesOf : SemLoc sig → Finset Bool
  | .reg _ => Finset.univ
  | .dma s => if (sidx s).isSome || (ridx s).isSome then {false} else ∅
def amountOf : SemLoc sig → ℕ
  | .reg _ => 1
  | .dma _ => N
def payOf (c : Dev nD) (b : Bool) : SemLoc sig → sProp 𝕄
  | .reg _ => barPay c b
  | .dma s => match sidx s with
    | some k => sendPay val c k
    | none => match ridx s with
      | some k => recvPay val c k
      | none => iprop(emp)

def ringRd : Rounds.Schedule (GSem nD τ sig) Bool 𝕄 where
  duties g r := if r = 0 ∧ g.1.2 = .tc then dutiesOf g.2 else ∅
  amount g _ _ := amountOf g.2
  payload g _ b := payOf val g.1.1 b g.2
  amount_pos g _ _ _ := by
    unfold amountOf; split
    · exact Nat.one_pos
    · exact N_pos

instance ringRd_storable (g : GSem nD τ sig) (r : ℕ) (b : Bool) :
    BI.Storable (upEmb : UEmb _ 𝕄) ((ringRd val).payload g r b) := by
  show BI.Storable upEmb (payOf val g.1.1 b g.2)
  unfold payOf
  (repeat' split) <;> infer_instance

theorem duties_bar (c : Dev nD) : (ringRd val).duties (barCell c) 0 = Finset.univ := by
  unfold ringRd; dsimp only; exact if_pos ⟨rfl, rfl⟩
theorem duties_s (c : Dev nD) (k : Fin 30) : (ringRd val).duties (scell c k) 0 = {false} := by
  unfold ringRd; dsimp only; refine Eq.trans (if_pos ⟨rfl, rfl⟩) ?_
  show (if (sidx (ssem k)).isSome || (ridx (ssem k)).isSome then ({false} : Finset Bool) else ∅) = {false}
  rw [sidx_ssem]; rfl
theorem duties_r (c : Dev nD) (k : Fin 30) : (ringRd val).duties (rcell c k) 0 = {false} := by
  unfold ringRd; dsimp only; refine Eq.trans (if_pos ⟨rfl, rfl⟩) ?_
  show (if (sidx (rsem k)).isSome || (ridx (rsem k)).isSome then ({false} : Finset Bool) else ∅) = {false}
  rw [ridx_rsem, sidx_rsem]; rfl
theorem duties_later (g : GSem nD τ sig) : ∀ r, 1 ≤ r → (ringRd val).duties g r = ∅ :=
  fun r hr => if_neg fun h => by have := h.1; omega

theorem expect_bar (c : Dev nD) : (ringRd val).expect (barCell c) 0 = 2 := by
  unfold Schedule.expect Schedule.amountOf; rw [duties_bar]; rfl
theorem expect_s (c : Dev nD) (k : Fin 30) : (ringRd val).expect (scell c k) 0 = N := by
  unfold Schedule.expect Schedule.amountOf; rw [duties_s, Finset.sum_singleton]; rfl
theorem expect_r (c : Dev nD) (k : Fin 30) : (ringRd val).expect (rcell c k) 0 = N := by
  unfold Schedule.expect Schedule.amountOf; rw [duties_r, Finset.sum_singleton]; rfl

theorem payload_s (c : Dev nD) (k : Fin 30) (b : Bool) : (ringRd val).payload (scell c k) 0 b = sendPay val c k := by
  show payOf val c b (.dma (ssem k)) = _
  unfold payOf; simp only [sidx_ssem]
theorem payload_r (c : Dev nD) (k : Fin 30) (b : Bool) : (ringRd val).payload (rcell c k) 0 b = recvPay val c k := by
  show payOf val c b (.dma (rsem k)) = _
  unfold payOf; simp only [sidx_rsem, ridx_rsem]
theorem payload_bar (c : Dev nD) (b : Bool) : (ringRd val).payload (barCell c) 0 b = barPay c b := rfl

theorem rest_s (c : Dev nD) (k : Fin 30) :
    bigSep ((ringRd val).duties (scell c k) 0 \ ∅) (fun u => (ringRd val).payload (scell c k) 0 u) = sendPay val c k := by
  rw [Finset.sdiff_empty, duties_s, bigSep_singleton, payload_s]
theorem rest_r (c : Dev nD) (k : Fin 30) :
    bigSep ((ringRd val).duties (rcell c k) 0 \ ∅) (fun u => (ringRd val).payload (rcell c k) 0 u) = recvPay val c k := by
  rw [Finset.sdiff_empty, duties_r, bigSep_singleton, payload_r]

/-- Both neighbours' signals together: every grant. -/
theorem grants_eq (c : Dev nD) : (bigSep Finset.univ (fun k => grant (F := F) c k)) = iprop(barPay c false ∗ barPay c true) := by
  unfold barPay
  rw [bigSep_filter_split Finset.univ (fun k => goesR k = true)]
  congr 2
theorem rest_bar (c : Dev nD) :
    bigSep ((ringRd val).duties (barCell c) 0 \ ∅) (fun u => (ringRd val).payload (barCell c) 0 u) = bigSep Finset.univ (fun k => grant c k) := by
  rw [Finset.sdiff_empty, duties_bar, grants_eq]
  exact bigSep_univ_eq_bigSepL [false, true] (by decide) (by decide) _

/-! ## Families over the transfers -/

def rest {M : Type} [URA M] (R : Fin 30 → sProp M) (n : ℕ) : sProp M := bigSep (Finset.univ.filter fun k : Fin 30 => n ≤ k.val) R
def below {M : Type} [URA M] (R : Fin 30 → sProp M) (n : ℕ) : sProp M := bigSep (Finset.univ.filter fun k : Fin 30 => k.val < n) R

theorem filter_rest (k : Fin 30) :
    (Finset.univ.filter fun j : Fin 30 => k.val ≤ j.val) = insert k (Finset.univ.filter fun j : Fin 30 => k.val + 1 ≤ j.val) := by
  ext j; simp only [Finset.mem_filter, Finset.mem_univ, true_and, Finset.mem_insert, Fin.ext_iff]; omega
theorem filter_below (k : Fin 30) :
    (Finset.univ.filter fun j : Fin 30 => j.val < k.val + 1) = insert k (Finset.univ.filter fun j : Fin 30 => j.val < k.val) := by
  ext j; simp only [Finset.mem_filter, Finset.mem_univ, true_and, Finset.mem_insert, Fin.ext_iff]; omega

theorem rest_pop {M : Type} [URA M] (R : Fin 30 → sProp M) (k : Fin 30) : rest R k.val = iprop(R k ∗ rest R (k.val + 1)) := by
  unfold rest; rw [filter_rest]; exact bigSep_insert (by simp)
theorem below_push {M : Type} [URA M] (R : Fin 30 → sProp M) (k : Fin 30) : below R (k.val + 1) = iprop(R k ∗ below R k.val) := by
  unfold below; rw [filter_below]; exact bigSep_insert (by simp)
theorem rest_zero {M : Type} [URA M] (R : Fin 30 → sProp M) : rest R 0 = bigSep Finset.univ R := by
  unfold rest; congr 1
theorem rest_end {M : Type} [URA M] (R : Fin 30 → sProp M) : rest R 30 = (BI.emp : sProp M) := by
  unfold rest; rw [show (Finset.univ.filter fun k : Fin 30 => 30 ≤ k.val) = ∅ from by decide]; rfl
theorem below_zero {M : Type} [URA M] (R : Fin 30 → sProp M) : below R 0 = (BI.emp : sProp M) := by
  unfold below; rw [show (Finset.univ.filter fun k : Fin 30 => k.val < 0) = ∅ from by decide]; rfl
theorem below_end {M : Type} [URA M] (R : Fin 30 → sProp M) : below R 30 = bigSep Finset.univ R := by
  unfold below; congr 1

/-! ## What a device owes; the levels -/

/-- What `c` owes before its transfer `n`. -/
def owedT (c : Dev nD) (n : ℕ) : CellTallies nD τ sig Unit :=
  ∑ k ∈ Finset.univ.filter (fun k : Fin 30 => n ≤ k.val), tallyAt (rcell (tgt c k) k) () N
theorem owedT_pop (c : Dev nD) (k : Fin 30) : owedT c k.val = owedT c (k.val + 1) + tallyAt (rcell (tgt c k) k) () N := by
  unfold owedT; rw [filter_rest, Finset.sum_insert (by simp), add_comm]
theorem owedT_end (c : Dev nD) : owedT c 30 = 0 := by
  unfold owedT; rw [show (Finset.univ.filter fun k : Fin 30 => 30 ≤ k.val) = ∅ from by decide]; rfl

/-- What `c` owes at the start: its transfers and its two signals. -/
def O₀ (c : Dev nD) : CellTallies nD τ sig Unit :=
  (owedT c 0 + tallyAt (barCell (right c)) () 1) + tallyAt (barCell (left c)) () 1

def L (g : GSem nD τ sig) : Finset Unit := if g.1.2 = .tc then {()} else ∅
def lvOf : SemLoc sig → ℕ
  | .reg _ => 1
  | .dma s => match ridx s with
    | some k => k.val + 2
    | none => 0
def lv (g : GSem nD τ sig) (_ : Unit) : ℕ := lvOf g.2
theorem L_of_ne (g : GSem nD τ sig) (h : g.1.2 ≠ .tc) : L g = ∅ := if_neg h
theorem L_tc (c : Dev nD) (sm : SemLoc sig) : L ((c : Thread nD τ), sm) = {()} := if_pos rfl
theorem lv_r (c : Dev nD) (k : Fin 30) : lv (rcell c k) () = k.val + 2 := by
  show (match ridx (rsem k) with | some k => k.val + 2 | none => 0) = _
  rw [ridx_rsem]
theorem lv_s (c : Dev nD) (k : Fin 30) : lv (scell c k) () = 0 := by
  show (match ridx (ssem k) with | some k => k.val + 2 | none => 0) = _
  rw [ridx_ssem]

theorem owedT_mem (c : Dev nD) (n : ℕ) (g : GSem nD τ sig) (u : Unit) (h : 0 < owedT c n g u) :
    ∃ k : Fin 30, n ≤ k.val ∧ g = rcell (tgt c k) k := by
  by_contra hc
  push Not at hc
  have : owedT c n g u = 0 := by
    unfold owedT
    rw [Finset.sum_apply, Finsupp.finset_sum_apply]
    refine Finset.sum_eq_zero fun k hk => ?_
    rw [tallyAt_apply, if_neg]
    exact fun h' => hc k (Finset.mem_filter.mp hk).2 h'.1
  omega

/-- A wait on a cell below everything still owed is allowed. -/
theorem mayWait (c : Dev nD) (sm : SemLoc sig) (n : ℕ) (h : lvOf sm < n + 2) :
    (levAts L lv : sProp 𝕄) ⊢ MayWait (c : Thread nD τ) sm () (owedT c n) :=
  MayOwe.of_cut (L := L) (lev := lv) (n + 1) (fun p hp => by rw [Finset.mem_singleton.mp hp, L_tc]; exact Finset.mem_singleton_self _)
    (fun g u hg => by
      obtain ⟨k, -, rfl⟩ := owedT_mem c n g u hg
      rw [L_tc]; exact Finset.mem_singleton_self _)
    (fun p hp => by rw [Finset.mem_singleton.mp hp]; show lvOf sm ≤ n + 1; omega)
    (fun g u hg => by
      obtain ⟨k, hk, rfl⟩ := owedT_mem c n g u hg
      rw [lv_r]; omega)

end Cert.KernelIdeal.Ring
-- ==== Proof.Steps.lean ====
/- What one transfer, one wait for a transfer, and the barrier do to the schedule's state. -/
module

public import proofs.«01_k».proof.Proof.Sched

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

/-- Running a piece of the body on device `c`, to be followed by `Q`. -/
abbrev run (c : Dev nD) {α : Type} (p : Code F α) (Q : α → sProp 𝕄) : sProp 𝕄 :=
  wp frame (wpE (defs₀ (F := F)) 𝒱₀ (c : Thread nD τ) none) Set.univ p Q

theorem run_load (c : Dev nD) {s : Shape} {e : EltTy} (m : Memref sig .tc .vmem s e) (r : LoadRect s) (hl : m.view.LoadsAt r)
    {S : Finset (Idx (m.view.loc (c : Thread nD τ)))} {q : PosShare TreeShare} {f : Buf (Elt F) (m.view.loc (c : Thread nD τ))}
    (hS : m.view.setOn r.set ⊆ S) (Q : (r.shape.Idx → Elt F e) → sProp 𝕄) :
    (m.view.loc (c : Thread nD τ) ↦[S]{q} f)
      ⊢ iprop(((m.view.loc (c : Thread nD τ) ↦[S]{q} f) -∗ Q (m.view.readAt (Elt F) r f)) -∗ run c (Prog.lift (.load m r hl)) Q) := by
  iintro H Hk
  iapply (wp_load 𝒱₀ (c : Thread nD τ) none Set.univ (m := m) (r := r) hS) $$ H
  iintro H
  rw [wp_ret]
  imodintro
  iapply Hk; iexact H

theorem run_store (c : Dev nD) {s : Shape} {e : EltTy} (m : Memref sig .tc .vmem s e) (r : Rect s) (w : r.shape.Idx → Elt F e)
    (hx : (m.access r).Stores Finset.univ) (hm : Finset.univ = Finset.univ ∨ ∀ a, r.stride a = 1)
    {S : Finset (Idx ((m.access r).loc (c : Thread nD τ)))} {f : Buf (Elt F) ((m.access r).loc (c : Thread nD τ))}
    (hS : (m.access r).setOn Finset.univ ⊆ S) (Q : PUnit → sProp 𝕄) :
    ((m.access r).loc (c : Thread nD τ) ↦[S]{fullShare} f)
      ⊢ iprop((((m.access r).loc (c : Thread nD τ) ↦[S]{fullShare} ((m.access r).write (Elt F) f w Finset.univ)) -∗ Q ⟨⟩)
        -∗ run c (Prog.lift (.store m r w Finset.univ hx hm)) Q) := by
  iintro H Hk
  iapply (wp_store 𝒱₀ (c : Thread nD τ) none Set.univ (m := m) (r := r) hS) $$ H
  iintro H
  rw [wp_ret]
  imodintro
  iapply Hk; iexact H

variable (val : Dev nD → Fin 30 → FVec F S128x1024 .bf16)

/-! ## The records -/

/-- The cells the schedule counts on. -/
def cells : Finset (GSem nD τ sig) :=
  (Finset.univ.image fun c : Dev nD => barCell c) ∪
    ((Finset.univ.image fun p : Dev nD × Fin 30 => scell p.1 p.2) ∪ (Finset.univ.image fun p : Dev nD × Fin 30 => rcell p.1 p.2))
theorem bar_mem (c : Dev nD) : barCell c ∈ cells := Finset.mem_union_left _ (Finset.mem_image_of_mem _ (Finset.mem_univ c))
theorem s_mem (c : Dev nD) (k : Fin 30) : scell c k ∈ cells :=
  Finset.mem_union_right _ (Finset.mem_union_left _ (Finset.mem_image.mpr ⟨(c, k), Finset.mem_univ _, rfl⟩))
theorem r_mem (c : Dev nD) (k : Fin 30) : rcell c k ∈ cells :=
  Finset.mem_union_right _ (Finset.mem_union_right _ (Finset.mem_image.mpr ⟨(c, k), Finset.mem_univ _, rfl⟩))

/-- Every cell's record, at the names the launch gave. -/
def recs (K : GSem nD τ sig → ℕ) : sProp 𝕄 :=
  iprop(∀ c : Dev nD, ∀ k : Fin 30, cellInv ER (ringRd val) (K (barCell c)) (barCell c)
    ∗ cellInv ER (ringRd val) (K (scell c k)) (scell c k) ∗ cellInv ER (ringRd val) (K (rcell c k)) (rcell c k))
instance recs_persistent (K : GSem nD τ sig → ℕ) : BI.Persistent (recs val K) := by unfold recs; infer_instance
theorem rec_bar (K : GSem nD τ sig → ℕ) (c : Dev nD) : recs val K ⊢ cellInv ER (ringRd val) (K (barCell c)) (barCell c) := by
  unfold recs; iintro H; ihave H := H $$ %c %0; icases H with ⟨H, -, -⟩; iexact H
theorem rec_s (K : GSem nD τ sig → ℕ) (c : Dev nD) (k : Fin 30) : recs val K ⊢ cellInv ER (ringRd val) (K (scell c k)) (scell c k) := by
  unfold recs; iintro H; ihave H := H $$ %c %k; icases H with ⟨-, H, -⟩; iexact H
theorem rec_r (K : GSem nD τ sig → ℕ) (c : Dev nD) (k : Fin 30) : recs val K ⊢ cellInv ER (ringRd val) (K (rcell c k)) (rcell c k) := by
  unfold recs; iintro H; ihave H := H $$ %c %k; icases H with ⟨-, -, H⟩; iexact H

/-! ## The state -/

/-- What `c` holds to start transfer `k`, -/
def Snd (c : Dev nD) (k : Fin 30) : sProp 𝕄 :=
  iprop(dutyTok ER (scell c k) 0 false ∗ dutyTok ER (rcell (tgt c k) k) 0 false ∗ reached ER (scell c k) 0)
/-- to wait for it, -/
def Rcv (c : Dev nD) (k : Fin 30) : sProp 𝕄 :=
  iprop(atPos ER (scell c k) 0 ∅ 0 ∗ atPos ER (rcell c k) 0 ∅ 0 ∗ cred (tallyAt (rcell c k) () N))
/-- and after. -/
def Done (c : Dev nD) (k : Fin 30) : sProp 𝕄 := iprop(semVal (scell c k) 0 ∗ semVal (rcell c k) 0)

/-- Device `c` about to start transfer `n`. -/
def Sd (c : Dev nD) (n : ℕ) : sProp 𝕄 :=
  iprop(rest (Snd c) n ∗ rest (grant c) n ∗ ∃ W, owes (c : Thread nD τ) (owedT c n) W)
/-- Device `c` about to wait for transfer `w`. -/
def Wt (c : Dev nD) (w : ℕ) : sProp 𝕄 := iprop(rest (Rcv c) w ∗ below (Done c) w)

theorem close (κ : ℕ) (g : GSem nD τ sig) :
    iprop(cellInv ER (ringRd val) κ g ∗ atPos ER g (0 + 1) ∅ 0) ⊢ (|={Set.univ}=> semVal g 0 : sProp 𝕄) :=
  Rounds.cell_close ER (ringRd val) (Set.mem_univ κ) id (duties_later val g)

/-! ## One transfer -/

theorem run_transfer (K : GSem nD τ sig → ℕ) (c dev : Dev nD) (k : Fin 30) (hdev : dev = tgt c k)
    {src dst : Memref sig .tc .vmem S128x1024 .bf16} {ss rs : DmaSem sig}
    (hsrc : src = srcM c k) (hdst : dst = dstM (tgt c k) k) (hss : ss = ssem k) (hrs : rs = rsem k)
    {hsc : dst.view.ref.isScScratch = false} {hw₁ : src.view.WordExact} {hw₂ : dst.view.WordExact}
    {hty : DmaTarget.Typed (nD := nD) (τ := τ) (p := Proc.tc) Space.vmem (SemLoc.dma rs) (.remote (Dev.tc dev) dst (.dma ss) hsc)}
    (Q : PUnit → sProp 𝕄) :
    iprop(recs val K ∗ owns (c : Thread nD τ) (srcM c k) (qOf k) (val c k) ∗ Sd c k.val)
      ⊢ iprop(((cred (tallyAt (scell c k) () N) ∗ Sd c (k.val + 1)) -∗ Q ⟨⟩)
        -∗ run c (Prog.lift (.enqueueDma src (.remote (Dev.tc dev) dst (.dma ss) hsc) (.dma rs) hw₁ hw₂ hty)) Q) := by
  subst hsrc hdst hss hrs hdev
  unfold Sd
  rw [rest_pop (Snd c) k, rest_pop (grant c) k]
  unfold Snd grant landAny owns
  iintro ⟨#HR, ⟨%fs, %hfs, Hs⟩, ⟨⟨HtS, HtR, #HrS⟩, Hsnd⟩, ⟨⟨⟨%fd, Hd⟩, #HrR⟩, Hgr⟩, ⟨%W, HO⟩⟩ Hk
  iapply (Rounds.wp_send_pointsTo 𝒱₀ ER (ringRd val) (c : Thread nD τ) none (c' := (tgt c k : Thread nD τ)) (src := srcM c k) (dst := dstM (tgt c k) k)
      (sS := .dma (ssem k)) (sem := .dma (rsem k)) (q := qOf k) (fs := fs) (fd := fd) (κ₁ := K (scell c k)) (κ₂ := K (rcell (tgt c k) k))
      (r₁ := 0) (r₂ := 0) (d₁ := false) (d₂ := false)
      (by rw [duties_s]; exact Finset.mem_singleton_self _) (by rw [duties_r]; exact Finset.mem_singleton_self _)
      () () N (credit_dst _ _) rfl rfl (owedT c (k.val + 1)) (owedT_pop c k) (W := W)
      (by rw [payload_s]; unfold sendPay owns; iintro H; iexists fs; isplitr; · ipureintro; exact hfs
          iexact H)
      (by rw [payload_r]; unfold recvPay owns; rw [from_tgt]; iintro H; iexists _; isplitr
          rotate_left; · iexact H
          ipureintro; rw [View.read_write_univ]; exact hfs)) $$ [Hs Hd HO HtS HtR]
  · isplitr; · iapply (rec_s val K c k); iexact HR
    isplitr; · iapply (rec_r val K (tgt c k) k); iexact HR
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  rw [wp_ret]
  imodintro
  iapply Hk
  isplitl [Hc]; · iexact Hc
  isplitl [Hsnd]; · iexact Hsnd
  isplitl [Hgr]; · iexact Hgr
  iexists W; iexact HO

/-! ## One wait for a transfer -/

theorem run_await (K : GSem nD τ sig → ℕ) (c : Dev nD) (k : Fin 30) (n : ℕ) (hn : k.val < n) {ss rs : DmaSem sig}
    (hss : ss = ssem k) (hrs : rs = rsem k)
    {a b a' b' : Memref sig .tc .vmem S128x1024 .bf16} (hb : b.view.dmaCredit = N) (hb' : b'.view.dmaCredit = N)
    {h₁ : a.view.WordExact} {h₂ : b.view.WordExact} {h₃ : a'.view.WordExact} {h₄ : b'.view.WordExact}
    (Q : PUnit → sProp 𝕄) :
    iprop(recs val K ∗ levAts L lv ∗ Wt c k.val ∗ Sd c n ∗ cred (tallyAt (scell c k) () N))
      ⊢ iprop(((Wt c (k.val + 1) ∗ Sd c n ∗ sendPay val c k ∗ recvPay val c k) -∗ Q ⟨⟩)
        -∗ run c (Prog.lift (.waitDma2 ss a b h₁ h₂)) fun _ => run c (Prog.lift (.waitDma2 rs a' b' h₃ h₄)) Q) := by
  subst hss hrs
  unfold Wt Sd
  rw [rest_pop (Rcv c) k, below_push (Done c) k]
  unfold Rcv Done
  iintro ⟨#HR, #Hlev, ⟨⟨⟨HaS, HaR, HcR⟩, Hrcv⟩, Hdone⟩, ⟨Hsnd, Hgr, ⟨%W, HO⟩⟩, HcS⟩ Hk
  iapply (Rounds.wp_wait_rest_token 𝒱₀ ER (ringRd val) (c : Thread nD τ) none (κ := K (scell c k))
      (wpE_waitDma2_eq 𝒱₀ (c : Thread nD τ) none Set.univ) (Set.mem_univ _) () (O := owedT c n) (W := W) (R := 0) (m := 0) (T := ∅)
      ((Nat.zero_add _).trans (hb.trans (expect_s val c k).symm))) $$ [HcS HO HaS]
  · isplitr; · iapply (rec_s val K c k); iexact HR
    isplitl [HcS]; · rw [hb]; iexact HcS
    isplitl [HO]; · iexact HO
    isplitr
    · iapply (mayWait c (.dma (ssem k)) n (lt_of_le_of_lt (le_of_eq (lv_s c k)) (Nat.succ_pos _))); iexact Hlev
    iexact HaS
  iintro ⟨HO, HaS, -, Hpay⟩
  ihave HpS := (Entails.of_eq (rest_s val c k)) $$ Hpay
  imod (close val (K (scell c k)) (scell c k)) $$ [HaS] with HvS
  · isplitr; · iapply (rec_s val K c k); iexact HR
    iexact HaS
  rw [wp_ret]
  imodintro
  iapply (Rounds.wp_wait_rest_token 𝒱₀ ER (ringRd val) (c : Thread nD τ) none (κ := K (rcell c k))
      (wpE_waitDma2_eq 𝒱₀ (c : Thread nD τ) none Set.univ) (Set.mem_univ _) () (O := owedT c n)
      (W := insert (SemLoc.dma (ssem k), ()) W) (R := 0) (m := 0) (T := ∅)
      ((Nat.zero_add _).trans (hb'.trans (expect_r val c k).symm))) $$ [HcR HO HaR]
  · isplitr; · iapply (rec_r val K c k); iexact HR
    isplitl [HcR]; · rw [hb']; iexact HcR
    isplitl [HO]; · iexact HO
    isplitr
    · iapply (mayWait c (.dma (rsem k)) n (lt_of_le_of_lt (le_of_eq (lv_r c k)) (by omega))); iexact Hlev
    iexact HaR
  iintro ⟨HO, HaR, -, Hpay⟩
  ihave HpR := (Entails.of_eq (rest_r val c k)) $$ Hpay
  imod (close val (K (rcell c k)) (rcell c k)) $$ [HaR] with HvR
  · isplitr; · iapply (rec_r val K c k); iexact HR
    iexact HaR
  rw [wp_ret]
  imodintro
  iapply Hk
  isplitl [Hrcv Hdone HvS HvR]
  · isplitl [Hrcv]; · iexact Hrcv
    isplitl [HvS HvR]
    · isplitl [HvS]; · iexact HvS
      iexact HvR
    iexact Hdone
  isplitl [Hsnd Hgr HO]
  · isplitl [Hsnd]; · iexact Hsnd
    isplitl [Hgr]; · iexact Hgr
    iexists _; iexact HO
  isplitl [HpS]; · iexact HpS
  iexact HpR

/-! ## The barrier -/

/-- What `c` holds at the barrier: its place there, its two signals, and the grants it gives. -/
def Bar (c : Dev nD) : sProp 𝕄 :=
  iprop(atPos ER (barCell c) 0 ∅ 0 ∗ cred (tallyAt (barCell c) () 2)
    ∗ dutyTok ER (barCell (left c)) 0 false ∗ dutyTok ER (barCell (right c)) 0 true
    ∗ reached ER (barCell (left c)) 0 ∗ reached ER (barCell (right c)) 0)

/-- The blocks of `d` that transfers overwrite, and that their cells are open: what `d`'s signals hand out. -/
def lands (d : Dev nD) : sProp 𝕄 := bigSep Finset.univ fun k => iprop(landAny (F := F) d k ∗ reached ER (rcell d k) 0)

theorem lands_eq (d : Dev nD) : lands (F := F) d = iprop(barPay (left d) false ∗ barPay (right d) true) := by
  unfold lands barPay
  rw [bigSep_filter_split Finset.univ (fun k => goesR k = true)]
  have h : ∀ b (e : Dev nD), (∀ k, goesR k = !b → tgt e k = d) →
      (bigSep (Finset.univ.filter fun k => goesR k = !b) fun k => iprop(landAny (F := F) d k ∗ reached ER (rcell d k) 0))
        = bigSep (Finset.univ.filter fun k => goesR k = !b) fun k => grant e k := fun b e he =>
    bigSep_congr fun k hk => by unfold grant; rw [he k (Finset.mem_filter.mp hk).2]
  rw [← h false (left d) (fun k hk => by unfold tgt; rw [hk]; exact right_left d),
    ← h true (right d) (fun k hk => by unfold tgt; rw [hk]; exact left_right d)]
  congr 2

theorem run_enter (K : GSem nD τ sig → ℕ) (c : Dev nD) (Q : PUnit → sProp 𝕄) :
    iprop(recs val K ∗ levAts L lv ∗ Bar c ∗ lands c ∗ rest (Snd c) 0 ∗ ∃ W, owes (c : Thread nD τ) (O₀ c) W)
      ⊢ iprop(((semVal (barCell c) 0 ∗ Sd c 0) -∗ Q ⟨⟩) -∗ run c (enter c) Q) := by
  unfold enter semSignalWord semWaitWord Bar
  rw [lands_eq]
  iintro ⟨#HR, #Hlev, ⟨HaB, HcB, HtL, HtR, #HrL, #HrR⟩, ⟨HpL, HpR⟩, Hsnd, ⟨%W, HO⟩⟩ Hk
  iapply (Rounds.wp_signal 𝒱₀ ER (ringRd val) (c : Thread nD τ) none (dst := (left c : Thread nD τ)) (sem := barS) (r := 0) (d := false) (κ := K (barCell (left c)))
      (by rw [duties_bar]; exact Finset.mem_univ _) (k' := 1) rfl () (owedT c 0 + tallyAt (barCell (right c)) () 1) rfl)
    $$ [HO HtL HpL]
  · isplitr; · iapply (rec_bar val K (left c)); iexact HR
    isplitl [HO]; · iexact HO
    isplitl [HtL]; · iexact HtL
    isplitl [HpL]; · rw [payload_bar]; iexact HpL
    iexact HrL
  iintro HO
  iapply (Rounds.wp_signal 𝒱₀ ER (ringRd val) (c : Thread nD τ) none (dst := (right c : Thread nD τ)) (sem := barS) (r := 0) (d := true) (κ := K (barCell (right c)))
      (by rw [duties_bar]; exact Finset.mem_univ _) (k' := 1) rfl () (owedT c 0) rfl)
    $$ [HO HtR HpR]
  · isplitr; · iapply (rec_bar val K (right c)); iexact HR
    isplitl [HO]; · iexact HO
    isplitl [HtR]; · iexact HtR
    isplitl [HpR]; · rw [payload_bar]; iexact HpR
    iexact HrR
  iintro HO
  iapply (Rounds.wp_wait_rest_token 𝒱₀ ER (ringRd val) (c : Thread nD τ) none (κ := K (barCell c))
      (wpE_semWait_eq 𝒱₀ (c : Thread nD τ) none Set.univ) (Set.mem_univ _) () (O := owedT c 0) (W := W) (R := 0) (m := 0) (T := ∅)
      (k' := 2) ((Nat.zero_add 2).trans (expect_bar val c).symm)) $$ [HcB HO HaB]
  · isplitr; · iapply (rec_bar val K c); iexact HR
    isplitl [HcB]; · iexact HcB
    isplitl [HO]; · iexact HO
    isplitr; · iapply (mayWait c (.reg barS) 0 (by decide)); iexact Hlev
    iexact HaB
  iintro ⟨HO, HaB, -, Hpay⟩
  ihave Hg := (Entails.of_eq (rest_bar val c)) $$ Hpay
  imod (close val (K (barCell c)) (barCell c)) $$ [HaB] with Hv
  · isplitr; · iapply (rec_bar val K c); iexact HR
    iexact HaB
  rw [wp_ret]
  imodintro
  iapply Hk
  unfold Sd
  isplitl [Hv]; · iexact Hv
  isplitl [Hsnd]; · iexact Hsnd
  isplitl [Hg]; · rw [rest_zero]; iexact Hg
  iexists _; iexact HO

end Cert.KernelIdeal.Ring
-- ==== Proof.Vals.lean ====
/- What the ring's transfers carry: each device's attention of each row block, the running sums of the
   reduce-scatter, and the finished row blocks. -/
module

public import proofs.«01_k».proof.Proof.Steps

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- One device's operands. -/
structure In (F : FTy → Type) where
  x : FVec F S2048x1024 .bf16
  wq : FVec F S1024x1024 .bf16
  k : FVec F S2048x1024 .bf16
  v : FVec F S2048x1024 .bf16
  wo : FVec F S1024x1024 .bf16

/-- Row block `row0` of the output, from one device's heads. -/
def blk (i : In F) (row0 : BitVec 32) (hx : RowOk row0) (hk : KeyOk row0) : FVec F S128x1024 .bf16 :=
  blockV row0
    ((Memref.whole cc0_stg0_0).view.readAt (Elt F) (Rect.unit (s := S2048x1024) ![(Scalar.indexCast row0).toNat, 0] S128x1024.size hx).toLoadRect i.x)
    ((Memref.whole cc0_stg1_0).view.readAt (Elt F) (Rect.unit (s := S1024x1024) ![0, 0] S1024x1024.size inb_S1024x1024_S1024x1024_0_0).toLoadRect i.wq)
    ((Memref.whole cc0_stg2_0).view.readAt (Elt F) (keyR row0 hk 0).toLoadRect i.k) ((Memref.whole cc0_stg3_0).view.readAt (Elt F) (keyR row0 hk 0).toLoadRect i.v)
    ((Memref.whole cc0_stg2_0).view.readAt (Elt F) (keyR row0 hk 1).toLoadRect i.k) ((Memref.whole cc0_stg3_0).view.readAt (Elt F) (keyR row0 hk 1).toLoadRect i.v)
    ((Memref.whole cc0_stg2_0).view.readAt (Elt F) (keyR row0 hk 2).toLoadRect i.k) ((Memref.whole cc0_stg3_0).view.readAt (Elt F) (keyR row0 hk 2).toLoadRect i.v)
    ((Memref.whole cc0_stg2_0).view.readAt (Elt F) (keyR row0 hk 3).toLoadRect i.k) ((Memref.whole cc0_stg3_0).view.readAt (Elt F) (keyR row0 hk 3).toLoadRect i.v)
    ((Memref.whole cc0_stg2_0).view.readAt (Elt F) (keyR row0 hk 4).toLoadRect i.k) ((Memref.whole cc0_stg3_0).view.readAt (Elt F) (keyR row0 hk 4).toLoadRect i.v)
    ((Memref.whole cc0_stg2_0).view.readAt (Elt F) (keyR row0 hk 5).toLoadRect i.k) ((Memref.whole cc0_stg3_0).view.readAt (Elt F) (keyR row0 hk 5).toLoadRect i.v)
    ((Memref.whole cc0_stg2_0).view.readAt (Elt F) (keyR row0 hk 6).toLoadRect i.k) ((Memref.whole cc0_stg3_0).view.readAt (Elt F) (keyR row0 hk 6).toLoadRect i.v)
    ((Memref.whole cc0_stg2_0).view.readAt (Elt F) (keyR row0 hk 7).toLoadRect i.k) ((Memref.whole cc0_stg3_0).view.readAt (Elt F) (keyR row0 hk 7).toLoadRect i.v)
    ((Memref.whole cc0_stg4_0).view.readAt (Elt F) (Rect.unit (s := S1024x1024) ![0, 0] S1024x1024.size inb_S1024x1024_S1024x1024_0_0).toLoadRect i.wo)

theorem blk_congr (i : In F) {r r' : BitVec 32} (h : r = r') (hx : RowOk r) (hk : KeyOk r) (hx' : RowOk r') (hk' : KeyOk r') :
    blk i r hx hk = blk i r' hx' hk' := by subst h; rfl

/-! ## Row blocks by number -/

def rowJ (j : Fin 16) : BitVec 32 := BitVec.ofNat 32 (128 * j.val)
theorem rowOkJ : ∀ j, RowOk (rowJ j) := by decide +kernel
theorem keyOkJ : ∀ j, KeyOk (rowJ j) := by decide +kernel
/-- Row block `j` of the output, from one device's heads. -/
def blkJ (i : In F) (j : Fin 16) : FVec F S128x1024 .bf16 := blk i (rowJ j) (rowOkJ j) (keyOkJ j)

/-- The row block device `c` computes at step `n`. -/
def jW (c : Dev nD) (n : ℕ) : Fin 16 := ⟨(c.val + 16 - n) % 16, Nat.mod_lt _ (by decide)⟩
theorem rowA_eq : ∀ c, rowA c = rowJ (jW c 0) := by decide +kernel
theorem rowB_eq : ∀ c, rowB c = rowJ (jW c 1) := by decide +kernel
theorem rowC_eq : ∀ c (s : Fin 14), rowC c (BitVec.ofNat 32 s.val) = rowJ (jW c (s.val + 2)) := by decide +kernel

variable (I : Dev nD → In F)

/-- The running sum device `c` sends as hop `n`. -/
def rsV : ℕ → Dev nD → FVec F S128x1024 .bf16
  | 0, c => blkJ (I c) (jW c 0)
  | n + 1, c => addV (blkJ (I c) (jW c (n + 1))) (slotV (rsV n (left c)))

/-- The finished row block `j`: the last running sum of the device before. -/
def fin (j : Fin 16) : FVec F S128x1024 .bf16 := rsV I 15 (⟨(j.val + 15) % 16, Nat.mod_lt _ (by decide)⟩ : Dev nD)

/-- What transfer `k` of `c` carries. -/
def val (c : Dev nD) (k : Fin 30) : FVec F S128x1024 .bf16 := if k.val < 15 then rsV I k.val c else fin I (outIdx c k)

theorem val_hop (c : Dev nD) (k : Fin 30) (h : k.val < 15) : val I c k = rsV I k.val c := if_pos h
theorem val_gather (c : Dev nD) (k : Fin 30) (h : 15 ≤ k.val) : val I c k = fin I (outIdx c k) := if_neg (by omega)
theorem val_from (c : Dev nD) (k : Fin 30) (h : 15 ≤ k.val) : val I (from_ c k) k = fin I (inIdx c k) := val_gather I _ k h

theorem out_own : ∀ c : Dev nD, (⟨((outIdx c 15).val + 15) % 16, Nat.mod_lt _ (by decide)⟩ : Dev nD) = c := by decide +kernel
theorem out_own' : ∀ c : Dev nD, outIdx c 16 = outIdx c 15 := by decide +kernel
theorem fin_own (c : Dev nD) : fin I (outIdx c 15) = rsV I 15 c := by unfold fin; rw [out_own]
theorem from_hop : ∀ (c : Dev nD) (k : Fin 30), k.val < 15 → from_ c k = left c := by decide +kernel
theorem out_relay : ∀ (c : Dev nD) (k : Fin 28), 15 ≤ k.val → outIdx c ⟨k.val + 2, by omega⟩ = inIdx c ⟨k.val, by omega⟩ := by decide +kernel

end Cert.KernelIdeal.Ring
-- ==== Proof.Rounds.lean ====
/- The rounds of the reduce-scatter and of the all-gather, each run once at a device `c`. -/
module

public import proofs.«01_k».proof.Proof.Vals
public import Idealize.ShloMosaic.Lib.Pipeline.Value

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Attention -/

/-- The device's five operands, staged. -/
def ins (c : Dev nD) (i : In F) : sProp 𝕄 :=
  iprop((((c : Thread nD τ).loc cc0_stg0_0) ↦{fullShare} i.x) ∗ (((c : Thread nD τ).loc cc0_stg1_0) ↦{fullShare} i.wq)
    ∗ (((c : Thread nD τ).loc cc0_stg2_0) ↦{fullShare} i.k) ∗ (((c : Thread nD τ).loc cc0_stg3_0) ↦{fullShare} i.v)
    ∗ (((c : Thread nD τ).loc cc0_stg4_0) ↦{fullShare} i.wo))

theorem run_pure (c : Dev nD) {α : Type} (a : α) (Q : α → sProp 𝕄) : Q a ⊢ run c (pure a) Q := by
  show Q a ⊢ wp frame (wpE (defs₀ (F := F)) 𝒱₀ (c : Thread nD τ) none) Set.univ (.ret a) Q
  rw [wp_ret]
  iintro H; imodintro; iexact H

theorem run_attend (c : Dev nD) (i : In F) (row0 : BitVec 32) (hx : RowOk row0) (hk : KeyOk row0) (Q : FVec F S128x1024 .bf16 → sProp 𝕄) :
    ins c i ⊢ iprop((ins c i -∗ Q (blk i row0 hx hk))
      -∗ run c (attend (Memref.whole cc0_stg0_0) (Memref.whole cc0_stg1_0) (Memref.whole cc0_stg2_0) (Memref.whole cc0_stg3_0) (Memref.whole cc0_stg4_0) row0 hx hk) Q) := by
  unfold ins attend ldKey blk
  simp only [wp_bind]
  iintro ⟨H0, H1, H2, H3, H4⟩ Hk
  iapply (run_load c (Memref.whole cc0_stg0_0) _ _ (Finset.subset_univ _) _) $$ H0
  iintro H0
  iapply (run_load c (Memref.whole cc0_stg1_0) _ _ (Finset.subset_univ _) _) $$ H1
  iintro H1
  iterate 8
    iapply (run_load c (Memref.whole cc0_stg2_0) _ _ (Finset.subset_univ _) _) $$ H2
    iintro H2
    iapply (run_load c (Memref.whole cc0_stg3_0) _ _ (Finset.subset_univ _) _) $$ H3
    iintro H3
  iapply (run_load c (Memref.whole cc0_stg4_0) _ _ (Finset.subset_univ _) _) $$ H4
  iintro H4
  iapply (run_pure c _ Q)
  iapply Hk
  isplitl [H0]; · iexact H0
  isplitl [H1]; · iexact H1
  isplitl [H2]; · iexact H2
  isplitl [H3]; · iexact H3
  iexact H4

variable (I : Dev nD → In F)

/-- The attention of the row block of step `n`. -/
theorem run_step (c : Dev nD) (n : ℕ) (row0 : BitVec 32) (hx : RowOk row0) (hk : KeyOk row0) (hr : row0 = rowJ (jW c n))
    (Q : FVec F S128x1024 .bf16 → sProp 𝕄) :
    ins c (I c) ⊢ iprop((ins c (I c) -∗ Q (blkJ (I c) (jW c n)))
      -∗ run c (attend (Memref.whole cc0_stg0_0) (Memref.whole cc0_stg1_0) (Memref.whole cc0_stg2_0) (Memref.whole cc0_stg3_0) (Memref.whole cc0_stg4_0) row0 hx hk) Q) := by
  rw [show blkJ (I c) (jW c n) = blk (I c) row0 hx hk from blk_congr _ hr.symm _ _ _ _]
  exact run_attend c (I c) row0 hx hk Q

/-! ## The reduce-scatter -/

/-- The staging slot of transfer `k`, before its first use. -/
def stg (c : Dev nD) (k : Fin 30) : sProp 𝕄 :=
  if k.val < 15 then iprop(∃ f, ((srcM c k).view.loc (c : Thread nD τ) ↦[(srcM c k).view.set]{fullShare} f)) else iprop(emp)

/-- What stays with `c` of transfer `k`: a block that was received and is sent on is not among it. -/
def Back (c : Dev nD) (k : Fin 30) : sProp 𝕄 :=
  if k.val < 15 ∨ 28 ≤ k.val then iprop(sendPay (val I) c k ∗ recvPay (val I) c k) else sendPay (val I) c k

theorem srcM_slot (c : Dev nD) (s : Fin 15) : srcM c ⟨s.val, by omega⟩ = slotM stgM s := by
  unfold srcM; exact dif_pos s.isLt
theorem dstM_slot (c : Dev nD) (s : Fin 15) : dstM c ⟨s.val, by omega⟩ = slotM rcvM s := by
  unfold dstM; exact dif_pos s.isLt
theorem sem_s (s : Fin 15) : sem15 cc0_scratch2 s = ssem ⟨s.val, by omega⟩ := by revert s; decide +kernel
theorem sem_r (s : Fin 15) : sem15 cc0_scratch3 s = rsem ⟨s.val, by omega⟩ := by revert s; decide +kernel
theorem tgt_slot (c : Dev nD) (s : Fin 15) : right c = tgt c ⟨s.val, by omega⟩ := by
  unfold tgt goesR; rw [if_pos]; simp
theorem qOf_slot (s : Fin 15) : qOf ⟨s.val, by omega⟩ = fullShare := by
  unfold qOf; rw [if_neg (by dsimp only; omega), if_neg (by dsimp only; omega)]

theorem slot_load (m : Memref sig .tc .vmem S15x128x1024 .bf16) (s : Fin 15) : m.view.setOn (slotR s).toLoadRect.set ⊆ (slotM m s).view.set := by
  rw [View.set_reshape, View.set_slice]; exact Finset.Subset.refl _
theorem slot_store (m : Memref sig .tc .vmem S15x128x1024 .bf16) (s : Fin 15) : (m.access (slotR s)).setOn Finset.univ ⊆ (slotM m s).view.set := by
  rw [View.set_reshape, View.setOn_univ]
/-- A slot's block reads what the slot holds, in one row fewer. -/
theorem read_slot (m : Memref sig .tc .vmem S15x128x1024 .bf16) (s : Fin 15) (f : m.view.ty.Contents (Elt F)) :
    (slotM m s).view.read (Elt F) f = shapeCast S128x1024 (m.view.readAt (Elt F) (slotR s).toLoadRect f) shapeCasts_S1x128x1024_S128x1024 := rfl
theorem set_slot (m : Memref sig .tc .vmem S15x128x1024 .bf16) (s : Fin 15) :
    (slotM m s).view.set = (m.access (slotR s)).set := View.set_reshape _ _
theorem slot_stg (c : Dev nD) (s : Fin 15) :
    stg (F := F) c ⟨s.val, by omega⟩ = iprop(∃ f, ((slotM stgM s).view.loc (c : Thread nD τ) ↦[(slotM stgM s).view.set]{fullShare} f)) := by
  unfold stg; rw [if_pos (show (⟨s.val, by omega⟩ : Fin 30).val < 15 from s.isLt), srcM_slot]
theorem slot_recv (c : Dev nD) (s : Fin 15) :
    recvPay (val I) c ⟨s.val, by omega⟩ = iprop(∃ f, ⌜(slotM rcvM s).view.read (Elt F) f = rsV I s.val (left c)⌝ ∗ ((slotM rcvM s).view.loc (c : Thread nD τ) ↦[(slotM rcvM s).view.set]{fullShare} f)) := by
  unfold recvPay; rw [dstM_slot, from_hop c _ s.isLt, val_hop I _ _ s.isLt]
  unfold owns; rfl
theorem slot_send (c : Dev nD) (s : Fin 15) :
    owns (c : Thread nD τ) (srcM c ⟨s.val, by omega⟩) (qOf ⟨s.val, by omega⟩) (val I c ⟨s.val, by omega⟩) = (owns (c : Thread nD τ) (slotM stgM s) fullShare (rsV I s.val c) : sProp 𝕄) := by
  rw [srcM_slot, qOf_slot, val_hop I _ _ s.isLt]
theorem slotV_addV (p : FVec F S128x1024 .bf16) : shapeCast S128x1024 (slotV p) shapeCasts_S1x128x1024_S128x1024 = p :=
  shapeCast_shapeCast _ _ _

theorem run_send (K : GSem nD τ sig → ℕ) (c : Dev nD) (s : Fin 15) (p : FVec F S128x1024 .bf16) (hp : p = rsV I s.val c) (Q : PUnit → sProp 𝕄) :
    iprop(recs (val I) K ∗ rest (stg c) s.val ∗ Sd (F := F) c s.val)
      ⊢ iprop(((rest (stg c) (s.val + 1) ∗ cred (tallyAt (scell c ⟨s.val, by omega⟩) () N) ∗ Sd (F := F) c (s.val + 1)) -∗ Q ⟨⟩)
        -∗ run c (send stgM (Memref.isWhole_whole _) rcvM (Memref.isWhole_whole _) cc0_scratch2 cc0_scratch3 c s p) Q) := by
  unfold send
  simp only [wp_bind]
  have h := rest_pop (stg (F := F) c) ⟨s.val, by omega⟩
  dsimp only at h
  rw [h]; clear h
  subst hp
  rw [slot_stg]
  iintro ⟨#HR, ⟨⟨%f, Hs⟩, Hrest⟩, HSd⟩ Hk
  iapply (run_load c stgM (slotR s).toLoadRect _ (S := (slotM stgM s).view.set) (f := f) (slot_load _ s) _) $$ Hs
  iintro Hs
  iapply (run_store c stgM (slotR s) (slotV (rsV I s.val c)) _ _ (S := (slotM stgM s).view.set) (f := f) (slot_store _ s) _) $$ Hs
  iintro Hs
  iapply (run_transfer (val I) K c (right c) ⟨s.val, by omega⟩ (tgt_slot c s) (srcM_slot c s).symm (dstM_slot _ s).symm (sem_s s) (sem_r s) Q) $$ [Hs HSd]
  · isplitr; · iexact HR
    isplitl [Hs]
    · rw [slot_send]
      unfold owns
      iexists _
      isplitr
      rotate_left; · iexact Hs
      ipureintro
      rw [read_slot, View.readAt_rect, View.read_write_univ]
      exact slotV_addV _
    iexact HSd
  iintro ⟨Hc, HSd⟩
  iapply Hk
  isplitl [Hrest]; · iexact Hrest
  isplitl [Hc]; · iexact Hc
  iexact HSd

theorem run_receive (K : GSem nD τ sig → ℕ) (c : Dev nD) (s : Fin 15) (n : ℕ) (hn : s.val < n) (Q : Vec F S1x128x1024 .bf16 → sProp 𝕄) :
    iprop(recs (val I) K ∗ levAts L lv ∗ Wt c s.val ∗ Sd c n ∗ cred (tallyAt (scell c ⟨s.val, by omega⟩) () N) ∗ below (Back I c) s.val)
      ⊢ iprop(((Wt c (s.val + 1) ∗ Sd c n ∗ below (Back I c) (s.val + 1)) -∗ Q (slotV (rsV I s.val (left c))))
        -∗ run c (receive stgM (Memref.isWhole_whole _) rcvM (Memref.isWhole_whole _) cc0_scratch2 cc0_scratch3 s) Q) := by
  unfold receive
  simp only [wp_bind]
  have h := below_push (Back I c) ⟨s.val, by omega⟩
  dsimp only at h
  rw [h]; clear h
  iintro ⟨#HR, #Hlev, HW, HSd, Hc, HB⟩ Hk
  iapply (run_await (val I) K c ⟨s.val, by omega⟩ n hn (sem_s s) (sem_r s) (credit_slot_stg s) (credit_slot_rcv s) _) $$ [HW HSd Hc]
  · isplitr; · iexact HR
    isplitr; · iexact Hlev
    isplitl [HW]; · iexact HW
    isplitl [HSd]; · iexact HSd
    iexact Hc
  iintro ⟨HW, HSd, Hps, Hpr⟩
  ihave Hpr := (Entails.of_eq (slot_recv I c s)) $$ Hpr
  icases Hpr with ⟨%f, %hf, Hr⟩
  iapply (run_load c rcvM (slotR s).toLoadRect _ (S := (slotM rcvM s).view.set) (f := f) (slot_load _ s) _) $$ Hr
  iintro Hr
  have hq : rcvM.view.readAt (Elt F) (slotR s).toLoadRect f = slotV (rsV I s.val (left c)) := by
    rw [← hf, read_slot]; exact (shapeCast_shapeCast (s := S1x128x1024) (t := S128x1024) _ _ _).symm
  rw [hq]
  iapply Hk
  isplitl [HW]; · iexact HW
  isplitl [HSd]; · iexact HSd
  isplitr [HB]; rotate_left; · iexact HB
  unfold Back
  rw [if_pos (Or.inl (show (⟨s.val, by omega⟩ : Fin 30).val < 15 from s.isLt))]
  isplitl [Hps]; · iexact Hps
  iapply (Entails.of_eq (slot_recv I c s).symm)
  iexists f
  isplitr; · ipureintro; exact hf
  iexact Hr

end Cert.KernelIdeal.Ring
-- ==== Proof.Walk.lean ====
/- The whole body of the ring at a device `c`: hops, the finished block, and the all-gather. -/
module

public import proofs.«01_k».proof.Proof.Rounds
public import Idealize.ShloMosaic.Lib.MemrefSat

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F)

/-! ## Hops -/

/-- The token of transfer `n`'s departure. -/
def credN (c : Dev nD) (n : ℕ) : sProp 𝕄 := if h : n < 30 then cred (tallyAt (scell c ⟨n, h⟩) () N) else iprop(emp)
theorem credN_eq (c : Dev nD) (n : ℕ) (h : n < 30) : credN (F := F) c n = cred (tallyAt (scell c ⟨n, h⟩) () N) := dif_pos h

/-- Device `c` about to wait for hop `n`. -/
def RS (c : Dev nD) (n : ℕ) : sProp 𝕄 :=
  iprop(ins c (I c) ∗ rest (stg c) (n + 1) ∗ Sd (F := F) c (n + 1) ∗ Wt c n ∗ below (Back I c) n ∗ credN c n)

theorem run_hop (K : GSem nD τ sig → ℕ) (c : Dev nD) (s : Fin 14) (Q : FVec F S128x1024 .bf16 → sProp 𝕄) :
    iprop(recs (val I) K ∗ levAts L lv ∗ RS I c s.val)
      ⊢ iprop((RS I c (s.val + 1) -∗ Q (blkJ (I c) (jW c (s.val + 2))))
        -∗ run c (hop (Memref.whole cc0_stg0_0) (Memref.whole cc0_stg1_0) (Memref.whole cc0_stg2_0) (Memref.whole cc0_stg3_0) (Memref.whole cc0_stg4_0)
            stgM (Memref.isWhole_whole _) rcvM (Memref.isWhole_whole _) cc0_scratch2 cc0_scratch3 c s (blkJ (I c) (jW c (s.val + 1)))) Q) := by
  unfold hop RS
  simp only [wp_bind]
  rw [credN_eq c s.val (by omega), credN_eq c (s.val + 1) (by omega)]
  iintro ⟨#HR, #Hlev, Hins, Hst, HSd, HW, HB, Hc⟩ Hk
  iapply (run_receive I K c s.castSucc (s.val + 1) (Nat.lt_succ_self _) _) $$ [HW HSd Hc HB]
  · isplitr; · iexact HR
    isplitr; · iexact Hlev
    isplitl [HW]; · iexact HW
    isplitl [HSd]; · iexact HSd
    isplitl [Hc]; · iexact Hc
    iexact HB
  iintro ⟨HW, HSd, HB⟩
  iapply (run_send I K c s.succ (addV (blkJ (I c) (jW c (s.val + 1))) (slotV (rsV I s.val (left c)))) rfl _) $$ [Hst HSd]
  · isplitr; · iexact HR
    isplitl [Hst]; · iexact Hst
    iexact HSd
  iintro ⟨Hst, Hc, HSd⟩
  iapply (run_step I c (s.val + 2) _ _ _ (rowC_eq c s) Q) $$ Hins
  iintro Hins
  iapply Hk
  isplitl [Hins]; · iexact Hins
  isplitl [Hst]; · iexact Hst
  isplitl [HSd]; · iexact HSd
  isplitl [HW]; · iexact HW
  isplitl [HB]; · iexact HB
  iexact Hc

/-! ## The finished block -/

theorem off28_eq : ∀ c : Dev nD, k0_off28 c = (chunkJ (outIdx c 15)).off := by decide +kernel
def chunkF (c : Dev nD) : Chunk := ⟨k0_off28 c, k0_off28_inb c, by
  have h : ∀ (o : Fin 2 → ℕ) (ho : o = (chunkJ (outIdx c 15)).off) (hi : ∀ a, o a + S128x1024.size a ≤ S2048x1024.size a),
      (Rect.unit (s := S2048x1024) o S128x1024.size hi).WholeWords (EltTy.packing .bf16) := fun o ho hi => by
    subst ho; exact (chunkJ (outIdx c 15)).words
  exact h _ (off28_eq c) _⟩
theorem chunkF_eq (c : Dev nD) : chunkF c = chunkJ (outIdx c 15) := Chunk.ext' (off28_eq c)

theorem srcM_chunk (c : Dev nD) (k : Fin 30) (h : 15 ≤ k.val) : srcM c k = chunkOf outM (chunkJ (outIdx c k)) := by
  unfold srcM; exact dif_neg (by omega)
theorem dstM_chunk (c : Dev nD) (k : Fin 30) (h : 15 ≤ k.val) : dstM c k = chunkOf outM (chunkJ (inIdx c k)) := by
  unfold dstM; exact dif_neg (by omega)

/-- A chunk of the result, at any contents. -/
def chunkAny (c : Dev nD) (ck : Chunk) : sProp 𝕄 :=
  iprop(∃ f, ((chunkOf outM ck).view.loc (c : Thread nD τ) ↦[(chunkOf outM ck).view.set]{fullShare} f))

/-- The finished chunk, as what the two first copies of the all-gather read. -/
theorem own_split (c : Dev nD) : (owns (c : Thread nD τ) (chunkOf outM (chunkJ (outIdx c 15))) fullShare (rsV I 15 c) : sProp 𝕄)
    ⊣⊢ iprop(owns (c : Thread nD τ) (srcM c 15) (qOf 15) (val I c 15) ∗ owns (c : Thread nD τ) (srcM c 16) (qOf 16) (val I c 16)) := by
  rw [srcM_chunk c 15 (by decide), srcM_chunk c 16 (by decide), val_gather I c 15 (by decide), val_gather I c 16 (by decide), out_own', fin_own]
  exact owns_halves (c : Thread nD τ) _ fullShare _

/-- The first copies' sources, and the state, before the all-gather. -/
def FS (c : Dev nD) : sProp 𝕄 :=
  iprop(ins c (I c) ∗ Sd (F := F) c 15 ∗ Wt c 15 ∗ below (Back I c) 15
    ∗ owns (c : Thread nD τ) (srcM c 15) (qOf 15) (val I c 15) ∗ owns (c : Thread nD τ) (srcM c 16) (qOf 16) (val I c 16))

theorem own_split' (c : Dev nD) : (owns (c : Thread nD τ) (chunkOf outM (chunkF c)) fullShare (rsV I 15 c) : sProp 𝕄)
    ⊢ iprop(owns (c : Thread nD τ) (srcM c 15) (qOf 15) (val I c 15) ∗ owns (c : Thread nD τ) (srcM c 16) (qOf 16) (val I c 16)) := by
  rw [chunkF_eq]; exact (own_split I c).1
theorem chunkF_any (c : Dev nD) : chunkAny (F := F) c (chunkJ (outIdx c 15)) = chunkAny c (chunkF c) := by rw [chunkF_eq]

theorem run_finish (K : GSem nD τ sig → ℕ) (c : Dev nD) (Q : PUnit → sProp 𝕄) :
    iprop(recs (val I) K ∗ levAts L lv ∗ RS I c 14 ∗ chunkAny c (chunkJ (outIdx c 15)))
      ⊢ iprop((FS I c -∗ Q ⟨⟩)
        -∗ run c (finish outM (Memref.isWhole_whole _) stgM (Memref.isWhole_whole _) rcvM (Memref.isWhole_whole _) cc0_scratch2 cc0_scratch3 c
            (blkJ (I c) (jW c 15))) Q) := by
  rw [chunkF_any]
  unfold finish RS FS chunkAny
  simp only [wp_bind]
  rw [credN_eq c 14 (by decide)]
  iintro ⟨#HR, #Hlev, ⟨Hins, -, HSd, HW, HB, Hc⟩, ⟨%f, Ho⟩⟩ Hk
  iapply (run_receive I K c 14 15 (by decide) _) $$ [HW HSd Hc HB]
  · isplitr; · iexact HR
    isplitr; · iexact Hlev
    isplitl [HW]; · iexact HW
    isplitl [HSd]; · iexact HSd
    isplitl [Hc]; · iexact Hc
    iexact HB
  iintro ⟨HW, HSd, HB⟩
  iapply (run_load c outM (Rect.unit (s := S2048x1024) (k0_off28 c) S128x1024.size (k0_off28_inb c)).toLoadRect _
    (S := (chunkOf outM (chunkF c)).view.set) (f := f) (by rw [View.set_slice]; exact Finset.Subset.refl _) _) $$ Ho
  iintro Ho
  iapply (run_store c outM (Rect.unit (s := S2048x1024) (k0_off28 c) S128x1024.size (k0_off28_inb c)) _ _ _
    (S := (chunkOf outM (chunkF c)).view.set) (f := f) (by rw [View.setOn_univ]; exact Finset.Subset.refl _) _) $$ Ho
  iintro Ho
  iapply Hk
  isplitl [Hins]; · iexact Hins
  isplitl [HSd]; · iexact HSd
  isplitl [HW]; · iexact HW
  isplitl [HB]; · iexact HB
  iapply (own_split' I c)
  unfold owns
  iexists _
  isplitr
  rotate_left; · iexact Ho
  ipureintro
  exact View.read_write_univ _ _

/-! ## The all-gather -/

theorem run_gatherSend (K : GSem nD τ sig → ℕ) (c d : Dev nD) (k : Fin 30) (h15 : 15 ≤ k.val) {ss rs : DmaSem sig} {ck : Chunk}
    (hd : d = tgt c k) (hss : ss = ssem k) (hrs : rs = rsem k) (hck : ck = chunkJ (outIdx c k)) (Q : PUnit → sProp 𝕄) :
    iprop(recs (val I) K ∗ owns (c : Thread nD τ) (srcM c k) (qOf k) (val I c k) ∗ Sd (F := F) c k.val)
      ⊢ iprop(((credN c k.val ∗ Sd (F := F) c (k.val + 1)) -∗ Q ⟨⟩)
        -∗ run c (gatherSend outM (Memref.isWhole_whole _) d ss rs ck) Q) := by
  rw [credN_eq c k.val k.isLt]
  subst hck
  exact run_transfer (val I) K c d k hd (srcM_chunk c k h15).symm ((dstM_chunk _ k h15).trans (by rw [inIdx_tgt])).symm hss hrs Q

theorem run_gatherWait (K : GSem nD τ sig → ℕ) (c : Dev nD) (k : Fin 30) (n : ℕ) (hn : k.val < n) {ss rs : DmaSem sig} {ck : Chunk}
    (hss : ss = ssem k) (hrs : rs = rsem k) (Q : PUnit → sProp 𝕄) :
    iprop(recs (val I) K ∗ levAts L lv ∗ Wt c k.val ∗ Sd (F := F) c n ∗ credN c k.val)
      ⊢ iprop(((Wt c (k.val + 1) ∗ Sd (F := F) c n ∗ sendPay (val I) c k ∗ recvPay (val I) c k) -∗ Q ⟨⟩)
        -∗ run c (gatherWait outM (Memref.isWhole_whole _) ss rs ck) Q) := by
  unfold gatherWait
  simp only [wp_bind]
  rw [credN_eq c k.val k.isLt]
  exact run_await (val I) K c k n hn hss hrs (credit_chunk ck) (credit_chunk ck) Q

/-- Two transfers on their way: device `c` about to wait for transfer `n`. -/
def AG (c : Dev nD) (n : ℕ) : sProp 𝕄 :=
  iprop(Wt c n ∗ Sd (F := F) c (n + 2) ∗ below (Back I c) n ∗ credN c n ∗ credN c (n + 1))

/-- What comes with transfer `n` is sent on with transfer `n + 2`. -/
theorem relay_src (c : Dev nD) (n : ℕ) (h15 : 15 ≤ n) (h28 : n < 28) :
    recvPay (val I) c ⟨n, by omega⟩ = owns (c : Thread nD τ) (srcM c ⟨n + 2, by omega⟩) (qOf ⟨n + 2, by omega⟩) (val I c ⟨n + 2, by omega⟩) := by
  unfold recvPay
  have hq : qOf ⟨n + 2, by omega⟩ = fullShare := by
    unfold qOf; rw [if_neg (by dsimp only; omega), if_neg (by dsimp only; omega)]
  rw [hq, srcM_chunk c _ (show 15 ≤ n + 2 by omega), dstM_chunk c _ (show 15 ≤ n from h15), val_from I c _ (show 15 ≤ n from h15),
    val_gather I c _ (show 15 ≤ n + 2 by omega), out_relay c ⟨n, h28⟩ h15]

theorem run_relay (K : GSem nD τ sig → ℕ) (c d : Dev nD) (n : ℕ) (h15 : 15 ≤ n) (h28 : n < 28) {ss rs ss' rs' : DmaSem sig} {ck ck' : Chunk}
    (hss : ss = ssem ⟨n, by omega⟩) (hrs : rs = rsem ⟨n, by omega⟩) (hd : d = tgt c ⟨n + 2, by omega⟩) (hss' : ss' = ssem ⟨n + 2, by omega⟩)
    (hrs' : rs' = rsem ⟨n + 2, by omega⟩) (hck' : ck' = chunkJ (outIdx c ⟨n + 2, by omega⟩)) (Q : PUnit → sProp 𝕄) :
    iprop(recs (val I) K ∗ levAts L lv ∗ AG I c n)
      ⊢ iprop((AG I c (n + 1) -∗ Q ⟨⟩)
        -∗ run c (gatherWait outM (Memref.isWhole_whole _) ss rs ck) fun _ =>
            run c (gatherSend outM (Memref.isWhole_whole _) d ss' rs' ck') Q) := by
  unfold AG
  have h := below_push (Back I c) ⟨n, by omega⟩
  dsimp only at h
  rw [h]; clear h
  iintro ⟨#HR, #Hlev, HW, HSd, HB, Hc, Hc'⟩ Hk
  iapply (run_gatherWait I K c ⟨n, by omega⟩ (n + 2) (show n < n + 2 by omega) hss hrs _) $$ [HW HSd Hc]
  · isplitr; · iexact HR
    isplitr; · iexact Hlev
    isplitl [HW]; · iexact HW
    isplitl [HSd]; · iexact HSd
    iexact Hc
  iintro ⟨HW, HSd, Hps, Hpr⟩
  ihave Hpr := (Entails.of_eq (relay_src I c n h15 h28)) $$ Hpr
  iapply (run_gatherSend I K c d ⟨n + 2, by omega⟩ (show 15 ≤ n + 2 by omega) hd hss' hrs' hck' Q) $$ [Hpr HSd]
  · isplitr; · iexact HR
    isplitl [Hpr]; · iexact Hpr
    iexact HSd
  iintro ⟨Hc, HSd⟩
  iapply Hk
  isplitl [HW]; · iexact HW
  isplitl [HSd]; · iexact HSd
  isplitl [HB Hps]
  · isplitl [Hps]
    · unfold Back
      rw [if_neg (show ¬ (n < 15 ∨ 28 ≤ n) by omega)]
      iexact Hps
    iexact HB
  isplitl [Hc']; · iexact Hc'
  iexact Hc

end Cert.KernelIdeal.Ring
-- ==== Proof.Whole.lean ====
/- The body of the kernel, run at a device `c` from its operands, its two ring buffers, its result buffer and its part of the schedule. -/
module

public import proofs.«01_k».proof.Proof.Walk

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F)

/-! ## The code's cells and chunks are the schedule's -/

theorem chunkM_eq : ∀ c : Dev nD, k0_off29 c = (chunkJ (outIdx c 15)).off := by decide +kernel
theorem chunkR_eq : ∀ (c : Dev nD) (s : Fin 7), k0_off30 c (BitVec.ofNat 32 s.val) = (chunkJ (outIdx c ⟨17 + 2 * s.val, by omega⟩)).off := by decide +kernel
theorem chunkL_eq : ∀ (c : Dev nD) (s : Fin 6), k0_off31 c (BitVec.ofNat 32 s.val) = (chunkJ (outIdx c ⟨18 + 2 * s.val, by omega⟩)).off := by decide +kernel
theorem semR_s : ∀ h : Fin 8, sem8 cc0_scratch4 h = ssem ⟨15 + 2 * h.val, by omega⟩ := by decide +kernel
theorem semR_r : ∀ h : Fin 8, sem8 cc0_scratch5 h = rsem ⟨15 + 2 * h.val, by omega⟩ := by decide +kernel
theorem semL_s : ∀ h : Fin 7, sem7 cc0_scratch6 h = ssem ⟨16 + 2 * h.val, by omega⟩ := by decide +kernel
theorem semL_r : ∀ h : Fin 7, sem7 cc0_scratch7 h = rsem ⟨16 + 2 * h.val, by omega⟩ := by decide +kernel
theorem right_tgt : ∀ (c : Dev nD) (h : Fin 8), right c = tgt c ⟨15 + 2 * h.val, by omega⟩ := by decide +kernel
theorem left_tgt : ∀ (c : Dev nD) (h : Fin 7), left c = tgt c ⟨16 + 2 * h.val, by omega⟩ := by decide +kernel

theorem run_gatherFirst (K : GSem nD τ sig → ℕ) (c : Dev nD) (Q : PUnit → sProp 𝕄) :
    iprop(recs (val I) K ∗ levAts L lv ∗ FS I c)
      ⊢ iprop(((ins c (I c) ∗ AG I c 17) -∗ Q ⟨⟩)
        -∗ run c (gatherFirst outM (Memref.isWhole_whole _) cc0_scratch4 cc0_scratch5 cc0_scratch6 cc0_scratch7 c) Q) := by
  unfold gatherFirst FS
  simp only [wp_bind]
  iintro ⟨#HR, #Hlev, Hins, HSd, HW, HB, Hs, Hs'⟩ Hk
  iapply (run_gatherSend I K c (right c) 15 (by decide) (right_tgt c 0) (semR_s 0) (semR_r 0) (Chunk.ext' (chunkM_eq c)) _) $$ [Hs HSd]
  · isplitr; · iexact HR
    isplitl [Hs]; · iexact Hs
    iexact HSd
  iintro ⟨Hc, HSd⟩
  iapply (run_gatherSend I K c (left c) 16 (by decide) (left_tgt c 0) (semL_s 0) (semL_r 0) (Chunk.ext' ((chunkM_eq c).trans (by rw [out_own']))) _) $$ [Hs' HSd]
  · isplitr; · iexact HR
    isplitl [Hs']; · iexact Hs'
    iexact HSd
  iintro ⟨Hc', HSd⟩
  iapply (run_relay I K c (right c) 15 (by decide) (by decide) (semR_s 0) (semR_r 0) (right_tgt c 1) (semR_s 1) (semR_r 1) (Chunk.ext' (chunkR_eq c 0)) _) $$ [HW HSd HB Hc Hc']
  · isplitr; · iexact HR
    isplitr; · iexact Hlev
    unfold AG
    isplitl [HW]; · iexact HW
    isplitl [HSd]; · iexact HSd
    isplitl [HB]; · iexact HB
    isplitl [Hc]; · iexact Hc
    iexact Hc'
  iintro HA
  iapply (run_relay I K c (left c) 16 (by decide) (by decide) (semL_s 0) (semL_r 0) (left_tgt c 1) (semL_s 1) (semL_r 1) (Chunk.ext' (chunkL_eq c 0)) Q) $$ [HA]
  · isplitr; · iexact HR
    isplitr; · iexact Hlev
    iexact HA
  iintro HA
  iapply Hk
  isplitl [Hins]; · iexact Hins
  iexact HA

theorem run_gatherStep (K : GSem nD τ sig → ℕ) (c : Dev nD) (s : Fin 5) (n n' : ℕ) (hn : n = 17 + 2 * s.val) (hn' : n' = n + 2) (Q : PUnit → sProp 𝕄) :
    iprop(recs (val I) K ∗ levAts L lv ∗ AG I c n)
      ⊢ iprop((AG I c n' -∗ Q ⟨⟩)
        -∗ run c (gatherStep outM (Memref.isWhole_whole _) cc0_scratch4 cc0_scratch5 cc0_scratch6 cc0_scratch7 c s) Q) := by
  subst hn' hn
  unfold gatherStep
  simp only [wp_bind]
  have e : ∀ {a b : ℕ} (h : a = b) (ha : a < 30) (hb : b < 30), (⟨a, ha⟩ : Fin 30) = ⟨b, hb⟩ := fun h _ _ => by subst h; rfl
  iintro ⟨#HR, #Hlev, HA⟩ Hk
  iapply (run_relay I K c (right c) (17 + 2 * s.val) (by omega) (by omega)
    ((semR_s _).trans (congrArg ssem (e (by dsimp only; omega) _ _))) ((semR_r _).trans (congrArg rsem (e (by dsimp only; omega) _ _)))
    ((right_tgt c ⟨s.val + 2, by omega⟩).trans (congrArg (tgt c) (e (by dsimp only; omega) _ _)))
    ((semR_s _).trans (congrArg ssem (e (by dsimp only; omega) _ _))) ((semR_r _).trans (congrArg rsem (e (by dsimp only; omega) _ _)))
    (Chunk.ext' ((chunkR_eq c ⟨s.val + 1, by omega⟩).trans (congrArg (fun k => (chunkJ (outIdx c k)).off) (e (by dsimp only; omega) _ _)))) _) $$ [HA]
  · isplitr; · iexact HR
    isplitr; · iexact Hlev
    iexact HA
  iintro HA
  iapply (run_relay I K c (left c) (17 + 2 * s.val + 1) (by omega) (by omega)
    ((semL_s _).trans (congrArg ssem (e (by dsimp only; omega) _ _))) ((semL_r _).trans (congrArg rsem (e (by dsimp only; omega) _ _)))
    ((left_tgt c ⟨s.val + 2, by omega⟩).trans (congrArg (tgt c) (e (by dsimp only; omega) _ _)))
    ((semL_s _).trans (congrArg ssem (e (by dsimp only; omega) _ _))) ((semL_r _).trans (congrArg rsem (e (by dsimp only; omega) _ _)))
    (Chunk.ext' ((chunkL_eq c ⟨s.val + 1, by omega⟩).trans (congrArg (fun k => (chunkJ (outIdx c k)).off) (e (by dsimp only; omega) _ _)))) Q) $$ [HA]
  · isplitr; · iexact HR
    isplitr; · iexact Hlev
    iexact HA
  iexact Hk

/-- Nothing is on its way. -/
def Fin' (c : Dev nD) : sProp 𝕄 := iprop(Wt c 30 ∗ Sd (F := F) c 30 ∗ below (Back I c) 30)

theorem run_gatherLast (K : GSem nD τ sig → ℕ) (c : Dev nD) (Q : PUnit → sProp 𝕄) :
    iprop(recs (val I) K ∗ levAts L lv ∗ AG I c 27)
      ⊢ iprop((Fin' I c -∗ Q ⟨⟩)
        -∗ run c (gatherLast outM (Memref.isWhole_whole _) cc0_scratch4 cc0_scratch5 cc0_scratch6 cc0_scratch7 c) Q) := by
  unfold gatherLast Fin'
  simp only [wp_bind]
  iintro ⟨#HR, #Hlev, HA⟩ Hk
  iapply (run_relay I K c (right c) 27 (by decide) (by decide) (semR_s 6) (semR_r 6) (right_tgt c 7) (semR_s 7) (semR_r 7) (Chunk.ext' (chunkR_eq c 6)) _) $$ [HA]
  · isplitr; · iexact HR
    isplitr; · iexact Hlev
    iexact HA
  unfold AG
  iintro ⟨HW, HSd, HB, Hc, Hc'⟩
  iapply (run_gatherWait I K c 28 30 (by decide) (semL_s 6) (semL_r 6) _) $$ [HW HSd Hc]
  · isplitr; · iexact HR
    isplitr; · iexact Hlev
    isplitl [HW]; · iexact HW
    isplitl [HSd]; · iexact HSd
    iexact Hc
  iintro ⟨HW, HSd, Hs, Hr⟩
  iapply (run_gatherWait I K c 29 30 (by decide) (semR_s 7) (semR_r 7) Q) $$ [HW HSd Hc']
  · isplitr; · iexact HR
    isplitr; · iexact Hlev
    isplitl [HW]; · iexact HW
    isplitl [HSd]; · iexact HSd
    iexact Hc'
  iintro ⟨HW, HSd, Hs', Hr'⟩
  iapply Hk
  isplitl [HW]; · iexact HW
  isplitl [HSd]; · iexact HSd
  rw [show below (Back I c) 30 = iprop(Back I c 29 ∗ below (Back I c) 29) from below_push _ 29,
    show below (Back I c) 29 = iprop(Back I c 28 ∗ below (Back I c) 28) from below_push _ 28]
  isplitl [Hs' Hr']
  · unfold Back
    rw [if_pos (by decide)]
    isplitl [Hs']; · iexact Hs'
    iexact Hr'
  isplitl [Hs Hr]
  · unfold Back
    rw [if_pos (by decide)]
    isplitl [Hs]; · iexact Hs
    iexact Hr
  iexact HB

/-! ## The whole body -/

/-- What the body starts from. -/
def Pre' (c : Dev nD) : sProp 𝕄 :=
  iprop(ins c (I c) ∗ bigSep Finset.univ (stg c) ∗ chunkAny c (chunkJ (outIdx c 15)) ∗ Bar c ∗ lands c
    ∗ bigSep Finset.univ (Snd c) ∗ bigSep Finset.univ (Rcv c) ∗ ∃ W, owes (c : Thread nD τ) (O₀ c) W)
/-- What it ends with. -/
def Post' (c : Dev nD) : sProp 𝕄 :=
  iprop(ins c (I c) ∗ semVal (barCell c) 0 ∗ bigSep Finset.univ (Done c) ∗ bigSep Finset.univ (Back I c)
    ∗ ∃ W, owes (c : Thread nD τ) (0 : CellTallies nD τ sig Unit) W)

theorem run_deviceId (c : Dev nD) (Q : Dev nD → sProp 𝕄) : Q c ⊢ run c (Prog.lift .deviceId : Code F (Dev nD)) Q := by
  unfold run
  show Q c ⊢ wp frame (wpE (defs₀ (F := F)) 𝒱₀ (c : Thread nD τ) none) Set.univ (.op .deviceId .ret) Q
  rw [wp_deviceId, wp_ret]
  iintro H; imodintro; iexact H

theorem run_body (K : GSem nD τ sig → ℕ) (c : Dev nD) (Q : PUnit → sProp 𝕄) :
    iprop(recs (val I) K ∗ levAts L lv ∗ Pre' I c)
      ⊢ iprop((Post' I c -∗ Q ⟨⟩)
        -∗ run c (body (Memref.whole cc0_stg0_0) (Memref.whole cc0_stg1_0) (Memref.whole cc0_stg2_0) (Memref.whole cc0_stg3_0) (Memref.whole cc0_stg4_0)
            outM (Memref.isWhole_whole _) stgM (Memref.isWhole_whole _) rcvM (Memref.isWhole_whole _)
            cc0_scratch2 cc0_scratch3 cc0_scratch4 cc0_scratch5 cc0_scratch6 cc0_scratch7) Q) := by
  unfold body Pre' Post'
  simp only [wp_bind]
  iintro ⟨#HR, #Hlev, Hins, Hst, Ho, Hbar, Hla, Hsnd, Hrcv, HO⟩ Hk
  iapply (run_deviceId c _)
  iapply (run_enter (val I) K c _) $$ [Hbar Hla Hsnd HO]
  · isplitr; · iexact HR
    isplitr; · iexact Hlev
    isplitl [Hbar]; · iexact Hbar
    isplitl [Hla]; · iexact Hla
    isplitl [Hsnd]; · rw [rest_zero]; iexact Hsnd
    iexact HO
  iintro ⟨Hb, HSd⟩
  iapply (run_step I c 0 _ _ _ (rowA_eq c) _) $$ Hins
  iintro Hins
  iapply (run_send I K c 0 _ rfl _) $$ [Hst HSd]
  · isplitr; · iexact HR
    isplitl [Hst]; · rw [show rest (stg c) (0 : Fin 15).val = bigSep Finset.univ (stg (F := F) c) from rest_zero _]; iexact Hst
    iexact HSd
  iintro ⟨Hst, Hc, HSd⟩
  iapply (run_step I c 1 _ _ _ (rowB_eq c) _) $$ Hins
  iintro Hins
  ihave HS : RS I c 0 $$ [Hins Hst HSd Hrcv Hc]
  · unfold RS Wt
    rw [credN_eq c 0 (by decide), below_zero, below_zero, rest_zero]
    isplitl [Hins]; · iexact Hins
    isplitl [Hst]; · iexact Hst
    isplitl [HSd]; · iexact HSd
    isplitl [Hrcv]
    · isplitl [Hrcv]; · iexact Hrcv
      iempintro
    isplitr; · iempintro
    iexact Hc
  iterate 14
    iapply (run_hop I K c _ _) $$ [HS]
    · isplitr; · iexact HR
      isplitr; · iexact Hlev
      iexact HS
    iintro HS
  iapply (run_finish I K c _) $$ [HS Ho]
  · isplitr; · iexact HR
    isplitr; · iexact Hlev
    isplitl [HS]; · iexact HS
    iexact Ho
  iintro HF
  iapply (run_gatherFirst I K c _) $$ [HF]
  · isplitr; · iexact HR
    isplitr; · iexact Hlev
    iexact HF
  iintro ⟨Hins, HA⟩
  iapply (run_gatherStep I K c 0 17 19 rfl rfl _) $$ [HA]
  · isplitr; · iexact HR
    isplitr; · iexact Hlev
    iexact HA
  iintro HA
  iapply (run_gatherStep I K c 1 19 21 rfl rfl _) $$ [HA]
  · isplitr; · iexact HR
    isplitr; · iexact Hlev
    iexact HA
  iintro HA
  iapply (run_gatherStep I K c 2 21 23 rfl rfl _) $$ [HA]
  · isplitr; · iexact HR
    isplitr; · iexact Hlev
    iexact HA
  iintro HA
  iapply (run_gatherStep I K c 3 23 25 rfl rfl _) $$ [HA]
  · isplitr; · iexact HR
    isplitr; · iexact Hlev
    iexact HA
  iintro HA
  iapply (run_gatherStep I K c 4 25 27 rfl rfl _) $$ [HA]
  · isplitr; · iexact HR
    isplitr; · iexact Hlev
    iexact HA
  iintro HA
  iapply (run_gatherLast I K c Q) $$ [HA]
  · isplitr; · iexact HR
    isplitr; · iexact Hlev
    iexact HA
  unfold Fin' Wt Sd
  rw [rest_end, rest_end, rest_end, below_end, below_end, owedT_end]
  iintro ⟨⟨-, Hd⟩, ⟨-, -, HO⟩, HB⟩
  iapply Hk
  isplitl [Hins]; · iexact Hins
  isplitl [Hb]; · iexact Hb
  isplitl [Hd]; · iexact Hd
  isplitl [HB]; · iexact HB
  iexact HO

end Cert.KernelIdeal.Ring
-- ==== Proof.Blocks.lean ====
module

public import proofs.«01_k».proof.Proof.Whole
public import Idealize.ShloMosaic.Lib.Ring
public import Idealize.ShloMosaic.Lib.SparseCore.Launch

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (I : Dev nD → In F)

theorem bigMono {M : Type} [URA M] {J : Type} [Fintype J] {Φ Ψ : J → sProp M} (h : ∀ i, Φ i ⊢ Ψ i) : bigSep Finset.univ Φ ⊢ bigSep Finset.univ Ψ :=
  bigSep_mono fun i _ => h i

/-! ## Thirty transfers as two halves -/

abbrev lo (s : Fin 15) : Fin 30 := ⟨s.val, by omega⟩
abbrev hi (s : Fin 15) : Fin 30 := ⟨15 + s.val, by omega⟩

theorem split30 {M : Type} [URA M] (R : Fin 30 → sProp M) :
    bigSep Finset.univ R = iprop(bigSep Finset.univ (fun s => R (lo s)) ∗ bigSep Finset.univ (fun s => R (hi s))) := by
  rw [bigSep_univ_equiv (finSumFinEquiv : Fin 15 ⊕ Fin 15 ≃ Fin 30) R, bigSep_univ_sum]
  rfl

theorem in_inj : ∀ c : Dev nD, ∀ s t : Fin 15, inIdx c (hi s) = inIdx c (hi t) → s = t := by decide +kernel
theorem in_ne : ∀ c : Dev nD, ∀ s : Fin 15, outIdx c 15 ≠ inIdx c (hi s) := by decide +kernel
theorem univ_in (c : Dev nD) : (Finset.univ : Finset (Fin 16)) = insert (outIdx c 15) (Finset.univ.image fun s => inIdx c (hi s)) := by
  revert c; decide +kernel

/-- The row blocks: the one a device finishes, and those that come to it. -/
theorem split16 {M : Type} [URA M] (c : Dev nD) (P : Fin 16 → sProp M) :
    bigSep Finset.univ P = iprop(P (outIdx c 15) ∗ bigSep Finset.univ (fun s => P (inIdx c (hi s)))) := by
  rw [univ_in c, bigSep_insert (fun h => by
    obtain ⟨s, -, hs⟩ := Finset.mem_image.mp h
    exact in_ne c s hs.symm), SparseCore.bigSep_image_of_injOn (fun s _ t _ h => in_inj c s t h)]
  rfl

/-! ## The slots and the row blocks tile their buffers -/

theorem slot_disj (s t : Fin 15) (h : s ≠ t) : Disjoint (slotR s).set (slotR t).set :=
  Ring.lead_disjoint (s := S15x128x1024) 0 1 (fun s : Fin 15 => ![s.val, 0, 0]) S1x128x1024.size _ (fun b => (Nat.one_mul _).symm) rfl s t h
theorem slot_cover : Finset.univ.biUnion (fun s : Fin 15 => (slotR s).set) = Finset.univ :=
  Ring.lead_cover (s := S15x128x1024) 0 1 (fun s : Fin 15 => ![s.val, 0, 0]) S1x128x1024.size _ (fun b => (Nat.one_mul _).symm) (by decide) rfl (by decide) rfl
abbrev chunkR' (j : Fin 16) : Rect S2048x1024 := Rect.unit (chunkJ j).off S128x1024.size (chunkJ j).inb
theorem chunk_disj (s t : Fin 16) (h : s ≠ t) : Disjoint (chunkR' s).set (chunkR' t).set :=
  Ring.lead_disjoint (s := S2048x1024) 0 128 (fun j : Fin 16 => ![128 * j.val, 0]) S128x1024.size _ (fun b => rfl) rfl s t h
theorem chunk_cover : Finset.univ.biUnion (fun s : Fin 16 => (chunkR' s).set) = Finset.univ :=
  Ring.lead_cover (s := S2048x1024) 0 128 (fun j : Fin 16 => ![128 * j.val, 0]) S128x1024.size _ (fun b => rfl) (by decide) rfl (by decide) rfl

theorem set_stg (s : Fin 15) : (slotM stgM s).view.set = (slotR s).set := (set_slot _ _).trans (View.set_slice_whole _ _)
theorem set_rcv (s : Fin 15) : (slotM rcvM s).view.set = (slotR s).set := (set_slot _ _).trans (View.set_slice_whole _ _)
theorem set_out (j : Fin 16) : (chunkOf outM (chunkJ j)).view.set = (chunkR' j).set := View.set_slice_whole _ _

/-- A slot of one buffer, at some contents. -/
def slotAny (c : Dev nD) (m : Memref sig .tc .vmem S15x128x1024 .bf16) (s : Fin 15) : sProp 𝕄 :=
  iprop(∃ f, ((slotM m s).view.loc (c : Thread nD τ) ↦[(slotM m s).view.set]{fullShare} f))

/-- A whole slot buffer is its slots, -/
theorem stg_split (c : Dev nD) : iprop(∃ f, (((c : Thread nD τ).loc cc0_scratch0) ↦{fullShare} f)) ⊢ (bigSep Finset.univ (slotAny c stgM) : sProp 𝕄) := by
  iintro ⟨%f, H⟩
  ihave H := (Entails.of_eq (Idealize.ShloMosaic.Ring.pointsTo_blocks (fun s : Fin 15 => (slotR s).set) slot_disj slot_cover f)) $$ H
  have hs : ∀ s, (((c : Thread nD τ).loc cc0_scratch0 ↦[(slotR s).set]{fullShare} f) : sProp 𝕄) ⊢ slotAny c stgM s := fun s => by
    unfold slotAny
    rw [set_stg]
    iintro H; iexists f; iexact H
  iapply (bigMono hs) $$ H
theorem rcv_split (c : Dev nD) : iprop(∃ f, (((c : Thread nD τ).loc cc0_scratch1) ↦{fullShare} f)) ⊢ (bigSep Finset.univ (slotAny c rcvM) : sProp 𝕄) := by
  iintro ⟨%f, H⟩
  ihave H := (Entails.of_eq (Idealize.ShloMosaic.Ring.pointsTo_blocks (fun s : Fin 15 => (slotR s).set) slot_disj slot_cover f)) $$ H
  have hs : ∀ s, (((c : Thread nD τ).loc cc0_scratch1 ↦[(slotR s).set]{fullShare} f) : sProp 𝕄) ⊢ slotAny c rcvM s := fun s => by
    unfold slotAny
    rw [set_rcv]
    iintro H; iexists f; iexact H
  iapply (bigMono hs) $$ H
theorem out_split (c : Dev nD) : iprop(∃ f, (((c : Thread nD τ).loc cc0_stg5_0) ↦{fullShare} f)) ⊢ (bigSep Finset.univ (fun j => chunkAny c (chunkJ j)) : sProp 𝕄) := by
  iintro ⟨%f, H⟩
  ihave H := (Entails.of_eq (Idealize.ShloMosaic.Ring.pointsTo_blocks (fun j : Fin 16 => (chunkR' j).set) chunk_disj chunk_cover f)) $$ H
  have hs : ∀ s, (((c : Thread nD τ).loc cc0_stg5_0 ↦[(chunkR' s).set]{fullShare} f) : sProp 𝕄) ⊢ chunkAny c (chunkJ s) := fun s => by
    unfold chunkAny
    rw [set_out]
    iintro H; iexists f; iexact H
  iapply (bigMono hs) $$ H
/-- and the slots make the buffer. -/
theorem stg_join (c : Dev nD) : (bigSep Finset.univ (slotAny c stgM) : sProp 𝕄) ⊢ iprop(∃ f, (((c : Thread nD τ).loc cc0_scratch0) ↦{fullShare} f)) := by
  refine .trans (bigSep_mono fun s _ => ?_)
    (Idealize.ShloMosaic.Ring.pointsTo_blocks_join_exists (fun s : Fin 15 => (slotR s).set) slot_disj slot_cover (Classical.arbitrary _))
  unfold slotAny
  rw [set_stg]
  exact BI.Entails.refl _
theorem rcv_join (c : Dev nD) : (bigSep Finset.univ (slotAny c rcvM) : sProp 𝕄) ⊢ iprop(∃ f, (((c : Thread nD τ).loc cc0_scratch1) ↦{fullShare} f)) := by
  refine .trans (bigSep_mono fun s _ => ?_)
    (Idealize.ShloMosaic.Ring.pointsTo_blocks_join_exists (fun s : Fin 15 => (slotR s).set) slot_disj slot_cover (Classical.arbitrary _))
  unfold slotAny
  rw [set_rcv]
  exact BI.Entails.refl _

/-- The result of the call: row block `j` is the finished row block `j`. -/
def outV : FVec F S2048x1024 .bf16 := fun i =>
  fin I (⟨(i 0).val / 128, by have h := (i 0).isLt; change (i 0).val < 2048 at h; omega⟩ : Fin 16)
    ((fun a => ⟨if a = (0 : Fin 2) then (i 0).val % 128 else (i 1).val, by
      have h := (i 1).isLt; change (i 1).val < 1024 at h
      revert a; intro a
      match a with
      | 0 => exact Nat.mod_lt _ (by decide)
      | 1 => exact h⟩) : S128x1024.Idx)

theorem outV_block (j : Fin 16) : (fun x => outV I ((chunkR' j).emb x)) = fin I j := by
  funext x
  have h0 : (((chunkR' j).emb x) 0).val = 128 * j.val + (x 0).val := by
    show 128 * j.val + 1 * (x 0).val = _; omega
  have h1 : (((chunkR' j).emb x) 1).val = (x 1).val := by
    show 0 + 1 * (x 1).val = _; omega
  have hx : (x 0).val < 128 := (x 0).isLt
  unfold outV
  have e : ∀ (a b : Fin 16) (y z : S128x1024.Idx), a = b → y = z → fin I a y = fin I b z := fun _ _ _ _ h h' => by rw [h, h']
  refine e _ _ _ _ (Fin.ext ?_) (funext fun a => Fin.ext ?_)
  · show (((chunkR' j).emb x) 0).val / 128 = j.val
    rw [h0]; omega
  · match a with
    | 0 =>
      show (((chunkR' j).emb x) 0).val % 128 = (x 0).val
      rw [h0]; omega
    | 1 => exact h1

theorem out_join (c : Dev nD) : (bigSep Finset.univ (fun j : Fin 16 => owns (c : Thread nD τ) (chunkOf outM (chunkJ j)) fullShare (fin I j)) : sProp 𝕄)
    ⊢ (((c : Thread nD τ).loc cc0_stg5_0) ↦{fullShare} outV I) := by
  rw [← owns_whole]
  have h := owns_of_rects (Ix := Unit) (Val := Elt F) (Name := ℕ) (U := UU) (Lvl := ℕ) (c : Thread nD τ) outM fullShare chunkR' (fun _ _ => rfl) chunk_disj chunk_cover (outV I)
  rw [bigSep_congr (fun j _ => by rw [outV_block])] at h
  exact h

/-! ## Entry -/

theorem emp_hi (c : Dev nD) : (iprop(emp) : sProp 𝕄) ⊢ bigSep Finset.univ (fun s : Fin 15 => stg (F := F) c (hi s)) := by
  rw [bigSep_congr (Ψ := fun _ => iprop(emp)) (fun s _ => by unfold stg; exact if_neg (by show ¬ (15 + s.val < 15); omega))]
  exact Entails.of_eq (bigSep_emp_const _).symm

theorem stg_enter (c : Dev nD) : iprop(∃ f, (((c : Thread nD τ).loc cc0_scratch0) ↦{fullShare} f)) ⊢ (bigSep Finset.univ (stg c) : sProp 𝕄) := by
  rw [split30]
  iintro H
  isplitl [H]
  · ihave H := (stg_split c) $$ H
    iapply (bigMono (Φ := slotAny c stgM) (Ψ := fun s => stg (F := F) c (lo s)) fun s => Entails.of_eq (slot_stg c s).symm) $$ H
  · iapply (emp_hi c)
    iempintro

theorem land_lo (c : Dev nD) (s : Fin 15) : slotAny (F := F) c rcvM s ⊢ landAny c (lo s) := by
  unfold landAny slotAny
  rw [show dstM c (lo s) = slotM rcvM s from dstM_slot c s]
theorem land_hi (c : Dev nD) (s : Fin 15) : chunkAny (F := F) c (chunkJ (inIdx c (hi s))) ⊢ landAny c (hi s) := by
  unfold landAny chunkAny
  rw [dstM_chunk c (hi s) (show 15 ≤ 15 + s.val by omega)]

theorem land_enter (c : Dev nD) :
    iprop((∃ f, (((c : Thread nD τ).loc cc0_scratch1) ↦{fullShare} f)) ∗ (∃ f, (((c : Thread nD τ).loc cc0_stg5_0) ↦{fullShare} f)))
      ⊢ iprop(bigSep Finset.univ (landAny (F := F) c) ∗ chunkAny c (chunkJ (outIdx c 15))) := by
  rw [split30]
  iintro ⟨H, Ho⟩
  ihave Ho := (out_split c) $$ Ho
  ihave Ho := (Entails.of_eq (split16 c (fun j => chunkAny (F := F) c (chunkJ j)))) $$ Ho
  icases Ho with ⟨Hc, Ho⟩
  isplitr [Hc]
  · isplitl [H]
    · ihave H := (rcv_split c) $$ H
      iapply (bigMono (land_lo c)) $$ H
    · iapply (bigMono (land_hi c)) $$ Ho
  · iexact Hc

/-! ## Exit -/

theorem back_lo (c : Dev nD) (s : Fin 15) : Back I c (lo s) ⊢ iprop(slotAny c stgM s ∗ slotAny c rcvM s) := by
  unfold Back slotAny
  rw [if_pos (show (lo s).val < 15 ∨ 28 ≤ (lo s).val from Or.inl s.isLt), show recvPay (val I) c (lo s) = _ from slot_recv I c s]
  unfold sendPay
  rw [slot_send]
  unfold owns
  iintro ⟨⟨%f, -, H⟩, ⟨%g, -, H'⟩⟩
  isplitl [H]; · iexists f; iexact H
  iexists g; iexact H'

/-- Blocks received are among those sent on. -/
theorem relay {M : Type} [URA M] (B S R : Fin 30 → sProp M) (hB : ∀ k : Fin 30, 15 ≤ k.val → k.val < 28 → B k = S k)
    (h28 : B 28 = iprop(S 28 ∗ R 28)) (h29 : B 29 = iprop(S 29 ∗ R 29)) (hR : ∀ k : Fin 28, 15 ≤ k.val → R ⟨k.val, by omega⟩ = S ⟨k.val + 2, by omega⟩) :
    bigSep Finset.univ (fun s => B (hi s)) ⊢ iprop((S 15 ∗ S 16) ∗ bigSep Finset.univ (fun s => R (hi s))) := by
  rw [bigSep_univ_eq_bigSepL [0,1,2,3,4,5,6,7,8,9,10,11,12,13,14] (by decide) (by decide), bigSep_univ_eq_bigSepL [0,1,2,3,4,5,6,7,8,9,10,11,12,13,14] (by decide) (by decide)]
  show iprop(B 15 ∗ B 16 ∗ B 17 ∗ B 18 ∗ B 19 ∗ B 20 ∗ B 21 ∗ B 22 ∗ B 23 ∗ B 24 ∗ B 25 ∗ B 26 ∗ B 27 ∗ B 28 ∗ B 29)
    ⊢ iprop((S 15 ∗ S 16) ∗ R 15 ∗ R 16 ∗ R 17 ∗ R 18 ∗ R 19 ∗ R 20 ∗ R 21 ∗ R 22 ∗ R 23 ∗ R 24 ∗ R 25 ∗ R 26 ∗ R 27 ∗ R 28 ∗ R 29)
  rw [h28, h29, hB 15 (by decide) (by decide), hB 16 (by decide) (by decide), hB 17 (by decide) (by decide), hB 18 (by decide) (by decide),
    hB 19 (by decide) (by decide), hB 20 (by decide) (by decide), hB 21 (by decide) (by decide), hB 22 (by decide) (by decide),
    hB 23 (by decide) (by decide), hB 24 (by decide) (by decide), hB 25 (by decide) (by decide), hB 26 (by decide) (by decide), hB 27 (by decide) (by decide),
    show R 15 = S 17 from hR 15 (by decide), show R 16 = S 18 from hR 16 (by decide), show R 17 = S 19 from hR 17 (by decide),
    show R 18 = S 20 from hR 18 (by decide), show R 19 = S 21 from hR 19 (by decide), show R 20 = S 22 from hR 20 (by decide),
    show R 21 = S 23 from hR 21 (by decide), show R 22 = S 24 from hR 22 (by decide), show R 23 = S 25 from hR 23 (by decide),
    show R 24 = S 26 from hR 24 (by decide), show R 25 = S 27 from hR 25 (by decide), show R 26 = S 28 from hR 26 (by decide),
    show R 27 = S 29 from hR 27 (by decide)]
  iintro ⟨H15, H16, H17, H18, H19, H20, H21, H22, H23, H24, H25, H26, H27, ⟨H28, R28⟩, ⟨H29, R29⟩⟩
  isplitl [H15 H16]; · isplitl [H15]; · iexact H15
                       iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [R28]; · iexact R28
  iexact R29

theorem relay_pay (c : Dev nD) (k : Fin 28) (h : 15 ≤ k.val) : recvPay (val I) c ⟨k.val, by omega⟩ = sendPay (val I) c ⟨k.val + 2, by omega⟩ :=
  relay_src I c k.val h k.isLt

theorem recv_hi (c : Dev nD) (s : Fin 15) : recvPay (val I) c (hi s)
    ⊢ (owns (c : Thread nD τ) (chunkOf outM (chunkJ (inIdx c (hi s)))) fullShare (fin I (inIdx c (hi s))) : sProp 𝕄) := by
  unfold recvPay
  rw [val_from I c (hi s) (show 15 ≤ 15 + s.val by omega), dstM_chunk c (hi s) (show 15 ≤ 15 + s.val by omega)]

theorem back_hi (c : Dev nD) : bigSep Finset.univ (fun s => Back I c (hi s))
    ⊢ (bigSep Finset.univ (fun j : Fin 16 => owns (c : Thread nD τ) (chunkOf outM (chunkJ j)) fullShare (fin I j)) : sProp 𝕄) := by
  rw [split16 c]
  refine (relay (Back I c) (sendPay (val I) c) (recvPay (val I) c) (fun k h h' => by unfold Back; exact if_neg (by omega))
    (by unfold Back; exact if_pos (by decide)) (by unfold Back; exact if_pos (by decide)) (relay_pay I c)).trans ?_
  iintro ⟨H, HR⟩
  isplitl [H]
  · rw [fin_own]
    iapply (own_split I c).2
    iexact H
  · iapply (bigMono (recv_hi I c)) $$ HR

theorem back_exit (c : Dev nD) : bigSep Finset.univ (Back I c)
    ⊢ iprop((∃ f, (((c : Thread nD τ).loc cc0_scratch0) ↦{fullShare} f)) ∗ (∃ f, (((c : Thread nD τ).loc cc0_scratch1) ↦{fullShare} f))
        ∗ (((c : Thread nD τ).loc cc0_stg5_0) ↦{fullShare} outV I)) := by
  rw [split30]
  iintro ⟨H, Hh⟩
  ihave H := (bigMono (back_lo I c)) $$ H
  ihave H := (show bigSep Finset.univ (fun s => iprop(slotAny c stgM s ∗ slotAny c rcvM s))
      ⊢ iprop(bigSep Finset.univ (slotAny c stgM) ∗ bigSep Finset.univ (slotAny (F := F) c rcvM)) from Entails.of_eq (bigSep_sep Finset.univ _ _)) $$ H
  icases H with ⟨H, H'⟩
  isplitl [H]; · iapply (stg_join c); iexact H
  isplitl [H']; · iapply (rcv_join c); iexact H'
  iapply (out_join I c)
  iapply (back_hi I c)
  iexact Hh

end Cert.KernelIdeal.Ring
-- ==== Proof.BodyEq.lean ====
module

public import proofs.«01_k».proof.Proof.Body

@[expose] public section

noncomputable section

namespace Cert.KernelIdeal.Ring

open Cert.KernelIdeal Cert.KernelIdeal.Gen
open Idealize.ShloMosaic Idealize.SL.Sem

variable {F : FTy → Type} [FloatOps F] [Named F]

set_option maxRecDepth 65536 in
set_option maxHeartbeats 0 in
/-- The printed body is its rounds. -/
theorem cc0_body_eq (arg0 : Memref sig .tc .vmem S2048x1024 .bf16) (harg0 : arg0.IsWhole)
    (arg1 : Memref sig .tc .vmem S1024x1024 .bf16) (harg1 : arg1.IsWhole)
    (arg2 : Memref sig .tc .vmem S2048x1024 .bf16) (harg2 : arg2.IsWhole)
    (arg3 : Memref sig .tc .vmem S2048x1024 .bf16) (harg3 : arg3.IsWhole)
    (arg4 : Memref sig .tc .vmem S1024x1024 .bf16) (harg4 : arg4.IsWhole)
    (arg5 : Memref sig .tc .vmem S2048x1024 .bf16) (harg5 : arg5.IsWhole)
    (arg6 : Memref sig .tc .vmem S15x128x1024 .bf16) (harg6 : arg6.IsWhole)
    (arg7 : Memref sig .tc .vmem S15x128x1024 .bf16) (harg7 : arg7.IsWhole)
    (arg8 arg9 : DmaSems sig S15) (arg10 arg11 : DmaSems sig S8) (arg12 arg13 : DmaSems sig S7) :
    cc0_body (F := F) arg0 harg0 arg1 harg1 arg2 harg2 arg3 harg3 arg4 harg4 arg5 harg5 arg6 harg6 arg7 harg7 arg8 arg9 arg10 arg11 arg12 arg13
      = body arg0 arg1 arg2 arg3 arg4 arg5 harg5 arg6 harg6 arg7 harg7 arg8 arg9 arg10 arg11 arg12 arg13 := rfl

end Cert.KernelIdeal.Ring
-- ==== Proof.Region.lean ====
module

public import proofs.«01_k».proof.Proof.Blocks
public import proofs.«01_k».proof.Proof.BodyEq
public import proofs.«01_k».proof.Proof.Gen.KernelIdeal.Regions
public import proofs.«01_k».proof.Proof.Gen.KernelIdeal.Points
public import Idealize.ShloMosaic.Lib.Pipeline.FrameBody
public import Idealize.ShloMosaic.Lib.Pipeline.ValueKit.Geometry
public import Idealize.ShloMosaic.Lib.Pipeline.RegionTalk

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # The kernel as a region of the program

What one device's region is entered with and left with: the five operands it reads, the result it leaves, the pieces of the
protocol it is handed at launch. -/

variable (m : (ℓ : Loc nD τ sig) → Buf (Elt F) ℓ)

/-- What each device's kernel is given: its operands after the host's first stretch. -/
def inp (c : Dev nD) : In F :=
  ⟨V1 m c main_v5, V1 m c main_arg1, V1 m c main_v18, V1 m c main_v19, V1 m c main_arg4⟩

/-- The protocol's part of a device's holdings while its kernel runs. -/
def Xk (c : Dev nD) : sProp 𝕄 :=
  iprop((∃ K, recs (val (inp m)) K) ∗ levAts L lv ∗ Bar c ∗ (bigSep Finset.univ fun k : Fin 30 => reached ER (rcell c k) 0)
    ∗ bigSep Finset.univ (Snd c) ∗ bigSep Finset.univ (Rcv c))

/-- The two scratch buffers, at contents nobody names. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def phi0 (c : Dev nD) : sProp 𝕄 := iprop(Xk m c ∗ scr c ∗ ∃ r, prngReg c r)
def phi1 (c : Dev nD) : sProp 𝕄 := iprop(semVal (barCell c) 0 ∗ bigSep Finset.univ (Done c) ∗ scr c ∗ ∃ r, prngReg c r)

/-- The region's data on device `c`. -/
def dat (c : Dev nD) : Pipeline.Dat τ (Elt F) Unit ℕ UU ℕ cfg0 c where
  A w := V1 m c (Proc.devRef .tc (Pipeline.arrRef spec0 w))
  after w t := match w with
    | 0 => (inp m c).x
    | 1 => (inp m c).wq
    | 2 => (inp m c).k
    | 3 => (inp m c).v
    | 4 => (inp m c).wo
    | 5 => outV (inp m)
  Φ t := if t.val = 0 then phi0 m c else phi1 c
  q _ := fullShare
  owed t := if t.val = 0 then O₀ c else 0

theorem dat_phi0 (c : Dev nD) : (dat m c).Φ t0_0.castSucc = phi0 m c := rfl
theorem dat_phi1 (c : Dev nD) : (dat m c).Φ t0_0.succ = phi1 c := rfl
theorem dat_owed0 (c : Dev nD) : (dat m c).owed t0_0.castSucc = O₀ c := rfl
theorem dat_owed1 (c : Dev nD) : (dat m c).owed t0_0.succ = 0 := rfl

theorem owes_in (c : Dev nD) (t : Fin (cfg0.N + 1)) (O : CellTallies nD τ sig Unit) (h : (dat m c).owed t = O) :
    (iprop(∃ W, owes (c : Thread nD τ) O W) : sProp 𝕄) ⊢ (dat m c).owesAt () t := by
  unfold Pipeline.Dat.owesAt Pipeline.owesWithin Pipeline.Dat.bound
  rw [h, show (dat m c).recorded t = Set.univ from rfl]
  iintro ⟨%W, H⟩
  iexists W
  isplitr; · ipureintro; exact fun _ _ => Or.inl trivial
  iexact H

theorem owes_out (c : Dev nD) (t : Fin (cfg0.N + 1)) (O : CellTallies nD τ sig Unit) (h : (dat m c).owed t = O) :
    (dat m c).owesAt () t ⊢ (iprop(∃ W, owes (c : Thread nD τ) O W) : sProp 𝕄) := by
  unfold Pipeline.Dat.owesAt Pipeline.owesWithin
  rw [h]
  iintro ⟨%W, -, H⟩
  iexists W; iexact H

/-! ### What the staging buffers hold before and after -/

variable (c : Dev nD)

/-- A whole buffer owned at a block that is some `v` whatever was there before holds `v`. -/
theorem enter_at (b : Ref sig .tc) {T : Type} (X : T → b.ty.Idx → Elt F b.ty.elt) (v : b.ty.Idx → Elt F b.ty.elt) (h : ∀ d, X d = v) :
    (iprop(∃ d, owns (c : Thread nD τ) (Memref.whole b) fullShare (X d)) : sProp 𝕄) ⊢ ((c : Thread nD τ).loc b) ↦{fullShare} v := by
  iintro ⟨%d, H⟩
  rw [h d]
  iapply (Entails.of_eq (owns_whole (c : Thread nD τ) b fullShare v)) $$ H

theorem before_0 (d) : (dat m c).before 0 t0_0 d = (inp m c).x := by
  refine ((dat m c).before_fetched 0 t0_0 (fetch0_0 t0_0) d).trans (funext fun y => ?_)
  show V1 m c main_v5 (((cfg0.win 0).blk t0_0).view.emb y) = V1 m c main_v5 y
  refine congrArg (V1 m c main_v5) (funext fun a => Fin.ext ?_)
  exact Pipeline.Window.rect_emb_val_of_index_zero (cfg0.win 0) t0_0 a (by revert a; decide +kernel) y

theorem before_1 (d) : (dat m c).before 1 t0_0 d = (inp m c).wq := by
  refine ((dat m c).before_fetched 1 t0_0 (fetch0_1 t0_0) d).trans (funext fun y => ?_)
  show V1 m c main_arg1 (((cfg0.win 1).blk t0_0).view.emb y) = V1 m c main_arg1 y
  refine congrArg (V1 m c main_arg1) (funext fun a => Fin.ext ?_)
  exact Pipeline.Window.rect_emb_val_of_index_zero (cfg0.win 1) t0_0 a (by revert a; decide +kernel) y

theorem before_2 (d) : (dat m c).before 2 t0_0 d = (inp m c).k := by
  refine ((dat m c).before_fetched 2 t0_0 (fetch0_2 t0_0) d).trans (funext fun y => ?_)
  show V1 m c main_v18 (((cfg0.win 2).blk t0_0).view.emb y) = V1 m c main_v18 y
  refine congrArg (V1 m c main_v18) (funext fun a => Fin.ext ?_)
  exact Pipeline.Window.rect_emb_val_of_index_zero (cfg0.win 2) t0_0 a (by revert a; decide +kernel) y

theorem before_3 (d) : (dat m c).before 3 t0_0 d = (inp m c).v := by
  refine ((dat m c).before_fetched 3 t0_0 (fetch0_3 t0_0) d).trans (funext fun y => ?_)
  show V1 m c main_v19 (((cfg0.win 3).blk t0_0).view.emb y) = V1 m c main_v19 y
  refine congrArg (V1 m c main_v19) (funext fun a => Fin.ext ?_)
  exact Pipeline.Window.rect_emb_val_of_index_zero (cfg0.win 3) t0_0 a (by revert a; decide +kernel) y

theorem before_4 (d) : (dat m c).before 4 t0_0 d = (inp m c).wo := by
  refine ((dat m c).before_fetched 4 t0_0 (fetch0_4 t0_0) d).trans (funext fun y => ?_)
  show V1 m c main_arg4 (((cfg0.win 4).blk t0_0).view.emb y) = V1 m c main_arg4 y
  refine congrArg (V1 m c main_arg4) (funext fun a => Fin.ext ?_)
  exact Pipeline.Window.rect_emb_val_of_index_zero (cfg0.win 4) t0_0 a (by revert a; decide +kernel) y

/-! ### The body's obligation -/

/-- What the kernel is run from and what it leaves, the staging buffers named one by one. -/
def bodyPre : sProp 𝕄 :=
  iprop(phi0 m c ∗ (∃ W, owes (c : Thread nD τ) (O₀ c) W) ∗ ins c (inp m c)
    ∗ ∃ f : Buf (Elt F) ((c : Thread nD τ).loc cc0_stg5_0), ((c : Thread nD τ).loc cc0_stg5_0) ↦{fullShare} f)
def bodyPost : sProp 𝕄 :=
  iprop(phi1 c ∗ (∃ W, owes (c : Thread nD τ) (0 : CellTallies nD τ sig Unit) W) ∗ ins c (inp m c)
    ∗ ((c : Thread nD τ).loc cc0_stg5_0) ↦{fullShare} outV (inp m))

theorem lands_intro : iprop(bigSep Finset.univ (landAny (F := F) c) ∗ bigSep Finset.univ fun k : Fin 30 => reached ER (rcell c k) 0) ⊢ (lands c : sProp 𝕄) := by
  unfold lands
  exact Entails.of_eq (bigSep_sep' _ _ _).symm

theorem body_run (Q : PUnit → sProp 𝕄) :
    bodyPre m c ⊢ iprop((bodyPost m c -∗ Q ⟨⟩) -∗ run c (bodyAt0 t0_0) Q) := by
  rw [show bodyAt0 (F := F) t0_0 = _ from cc0_body_eq ..]
  unfold bodyPre bodyPost phi0 phi1 Xk scr
  iintro ⟨⟨⟨⟨%K, #HR⟩, #Hlev, Hbar, Hrch, Hsnd, Hrcv⟩, ⟨Hs0, Hs1⟩, Hp⟩, HO, Hins, H5⟩ Hk
  ihave Hst := (stg_enter c) $$ Hs0
  ihave Hl := (land_enter c) $$ [Hs1 H5]
  · isplitl [Hs1] <;> iassumption
  icases Hl with ⟨Hla, Hch⟩
  ihave Hlands := (lands_intro c) $$ [Hla Hrch]
  · isplitl [Hla] <;> iassumption
  iapply (run_body (inp m) K c Q) $$ [Hbar Hsnd Hrcv HO Hins Hst Hch Hlands]
  · isplitr; · iexact HR
    isplitr; · iexact Hlev
    unfold Pre'
    isplitl [Hins]; · iexact Hins
    isplitl [Hst]; · iexact Hst
    isplitl [Hch]; · iexact Hch
    isplitl [Hbar]; · iexact Hbar
    isplitl [Hlands]; · iexact Hlands
    isplitl [Hsnd]; · iexact Hsnd
    isplitl [Hrcv]; · iexact Hrcv
    iexact HO
  unfold Post'
  iintro ⟨Hins, Hb0, Hd, HB, HO⟩
  ihave HB' := (back_exit (inp m) c) $$ HB
  icases HB' with ⟨Hs0, Hs1, H5⟩
  iapply Hk
  isplitl [Hb0 Hd Hs0 Hs1 Hp]
  · isplitl [Hb0]; · iexact Hb0
    isplitl [Hd]; · iexact Hd
    isplitl [Hs0 Hs1]
    · isplitl [Hs0] <;> iassumption
    iexact Hp
  isplitl [HO]; · iexact HO
  isplitl [Hins]; · iexact Hins
  iexact H5

set_option maxRecDepth 65536 in
theorem body_region : Pipeline.BodyObligation (dat m c) defs₀ 𝒱₀ () Set.univ := fun t => by
  obtain rfl := fin_N0 t
  rw [bigSep_W0, bigSep_W0, dat_phi0, dat_phi1]
  iintro ⟨Hphi, HO, H0, H1, H2, H3, H4, H5⟩
  ihave HO' := (owes_out m c _ (O₀ c) (dat_owed0 m c)) $$ HO
  ihave H0' := (enter_at c cc0_stg0_0 ((dat m c).before 0 t0_0) _ (before_0 m c)) $$ H0
  ihave H1' := (enter_at c cc0_stg1_0 ((dat m c).before 1 t0_0) _ (before_1 m c)) $$ H1
  ihave H2' := (enter_at c cc0_stg2_0 ((dat m c).before 2 t0_0) _ (before_2 m c)) $$ H2
  ihave H3' := (enter_at c cc0_stg3_0 ((dat m c).before 3 t0_0) _ (before_3 m c)) $$ H3
  ihave H4' := (enter_at c cc0_stg4_0 ((dat m c).before 4 t0_0) _ (before_4 m c)) $$ H4
  icases H5 with ⟨%d5, H5⟩
  ihave H5' := (Entails.of_eq (owns_whole (c : Thread nD τ) cc0_stg5_0 fullShare ((dat m c).before 5 t0_0 d5))) $$ H5
  iapply (body_run m c _) $$ [Hphi HO' H0' H1' H2' H3' H4' H5']
  · unfold bodyPre ins
    isplitl [Hphi]; · iexact Hphi
    isplitl [HO']; · iexact HO'
    isplitr [H5']
    · isplitl [H0']; · iexact H0'
      isplitl [H1']; · iexact H1'
      isplitl [H2']; · iexact H2'
      isplitl [H3']; · iexact H3'
      iexact H4'
    iexists ((dat m c).before 5 t0_0 d5); iexact H5'
  unfold bodyPost ins
  iintro ⟨Hphi, HO, ⟨H0, H1, H2, H3, H4⟩, H5⟩
  isplitl [Hphi]; · iexact Hphi
  isplitl [HO]; · iapply (owes_in m c _ _ (dat_owed1 m c)); iexact HO
  isplitl [H0]; · iapply (Entails.of_eq (owns_whole (c : Thread nD τ) cc0_stg0_0 fullShare (inp m c).x).symm) $$ H0
  isplitl [H1]; · iapply (Entails.of_eq (owns_whole (c : Thread nD τ) cc0_stg1_0 fullShare (inp m c).wq).symm) $$ H1
  isplitl [H2]; · iapply (Entails.of_eq (owns_whole (c : Thread nD τ) cc0_stg2_0 fullShare (inp m c).k).symm) $$ H2
  isplitl [H3]; · iapply (Entails.of_eq (owns_whole (c : Thread nD τ) cc0_stg3_0 fullShare (inp m c).v).symm) $$ H3
  isplitl [H4]; · iapply (Entails.of_eq (owns_whole (c : Thread nD τ) cc0_stg4_0 fullShare (inp m c).wo).symm) $$ H4
  iapply (Entails.of_eq (owns_whole (c : Thread nD τ) cc0_stg5_0 fullShare (outV (inp m))).symm) $$ H5

end Cert.KernelIdeal.Ring
-- ==== Proof.Launch.lean ====
module

public import proofs.«01_k».proof.Proof.Region
public import Idealize.ShloMosaic.Lib.Pipeline.FrameTail
public import Idealize.ShloMosaic.Lib.Quiescent

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! # Launch

At the start every cell of the protocol is recorded, the barrier cells open and the others waiting to be opened by their owner
when its kernel begins, and every token is dealt to the device that spends it. -/

/-! ## The cells and tokens -/

/-- A device's own counters, the ones transfers leave on and the ones they arrive on. -/
def osem : Fin 30 ⊕ Fin 30 → SemLoc sig
  | .inl k => .dma (ssem k)
  | .inr k => .dma (rsem k)

theorem ssem_inj {k k' : Fin 30} (h : ssem k = ssem k') : k = k' :=
  Option.some.inj ((sidx_ssem k).symm.trans ((congrArg sidx h).trans (sidx_ssem k')))
theorem rsem_inj {k k' : Fin 30} (h : rsem k = rsem k') : k = k' :=
  Option.some.inj ((ridx_rsem k).symm.trans ((congrArg ridx h).trans (ridx_rsem k')))
theorem ssem_ne_rsem (k k' : Fin 30) : ssem k ≠ rsem k' := fun h =>
  Option.some_ne_none k ((sidx_ssem k).symm.trans ((congrArg sidx h).trans (sidx_rsem k')))

theorem osem_inj : Function.Injective osem := by
  rintro (a | a) (b | b) h
  · exact congrArg _ (ssem_inj (SemLoc.dma.inj h))
  · exact absurd (SemLoc.dma.inj h) (ssem_ne_rsem a b)
  · exact absurd (SemLoc.dma.inj h).symm (ssem_ne_rsem b a)
  · exact congrArg _ (rsem_inj (SemLoc.dma.inj h))

theorem osem_facts : Pipeline.OwnSemFacts spec0 osem where
  isScoped := by decide +kernel
  inj := osem_inj
  disj := by decide +kernel

/-- What a token is for: one of the two signals, or a transfer's leaving or arriving. -/
def tok : Bool ⊕ (Fin 30 ⊕ Fin 30) → SemLoc sig × ℕ × Bool
  | .inl b => (.reg barS, 0, b)
  | .inr k => (osem k, 0, false)

theorem osem_ne_bar (k : Fin 30 ⊕ Fin 30) : osem k ≠ .reg barS := by cases k <;> exact fun h => nomatch h

theorem tok_inj : Function.Injective tok := by
  rintro (a | a) (b | b) h
  · exact congrArg _ (congrArg (fun t => t.2.2) h)
  · exact absurd (congrArg Prod.fst h).symm (osem_ne_bar b)
  · exact absurd (congrArg Prod.fst h) (osem_ne_bar a)
  · exact congrArg _ (osem_inj (congrArg Prod.fst h))

def barEmb : Dev nD ↪ GSem nD τ sig := ⟨fun c => barCell c, fun _ _ h => congrArg (fun g : GSem nD τ sig => g.1.1) h⟩
def scEmb : Dev nD × (Fin 30 ⊕ Fin 30) ↪ GSem nD τ sig :=
  ⟨fun ck => ((ck.1 : Thread nD τ), osem ck.2), fun _ _ h =>
    Prod.ext (congrArg (fun g : GSem nD τ sig => g.1.1) h) (osem_inj (congrArg Prod.snd h))⟩
def tokEmb : Dev nD × (Bool ⊕ (Fin 30 ⊕ Fin 30)) ↪ GSem nD τ sig × ℕ × Bool :=
  ⟨fun ck => (((ck.1 : Thread nD τ), (tok ck.2).1), (tok ck.2).2), fun _ _ h =>
    Prod.ext (congrArg (fun t : GSem nD τ sig × ℕ × Bool => t.1.1.1) h)
      (tok_inj (Prod.ext (congrArg (fun t : GSem nD τ sig × ℕ × Bool => t.1.2) h) (congrArg (fun t : GSem nD τ sig × ℕ × Bool => t.2) h)))⟩

def barCells : Finset (GSem nD τ sig) := Finset.univ.map barEmb
def scCells : Finset (GSem nD τ sig) := Finset.univ.map scEmb
def toks : Finset (GSem nD τ sig × ℕ × Bool) := Finset.univ.map tokEmb

theorem cells_disjoint : Disjoint barCells scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-! ## Funding, over any sets that hold the cells and tokens -/

/-- What a device holds of its own cells right after they are recorded. -/
def Lin (c : Dev nD) : sProp 𝕄 :=
  iprop(atPos ER (barCell c) 0 ∅ 0
    ∗ (bigSep Finset.univ fun k : Fin 30 => iprop(openTok ER (scell c k) ∗ openTok ER (rcell c k)))
    ∗ (dutyTok ER (barCell c) 0 false ∗ dutyTok ER (barCell c) 0 true)
    ∗ (bigSep Finset.univ fun k : Fin 30 => dutyTok ER (scell c k) 0 false) ∗ (bigSep Finset.univ fun k : Fin 30 => dutyTok ER (rcell c k) 0 false))

def reachBars : sProp 𝕄 := iprop(∀ c : Dev nD, reached ER (barCell c) 0)
instance reachBars_persistent : BI.Persistent (reachBars (F := F)) := by unfold reachBars; infer_instance

theorem lin_intro : iprop((bigSep Finset.univ fun c : Dev nD => (atPos ER (barCell c) 0 ∅ 0 : sProp 𝕄))
      ∗ (bigSep Finset.univ fun c : Dev nD => (bigSep Finset.univ fun k : Fin 30 => iprop(openTok ER (scell c k) ∗ openTok ER (rcell c k)) : sProp 𝕄))
      ∗ bigSep Finset.univ fun c : Dev nD => iprop((dutyTok ER (barCell c) 0 false ∗ dutyTok ER (barCell c) 0 true)
        ∗ (bigSep Finset.univ fun k : Fin 30 => dutyTok ER (scell c k) 0 false) ∗ (bigSep Finset.univ fun k : Fin 30 => dutyTok ER (rcell c k) 0 false)))
    ⊢ (bigSep Finset.univ (Lin (F := F)) : sProp 𝕄) := by
  unfold Lin
  rw [← bigSep_sep', ← bigSep_sep']

theorem at_mem {Ψ : GSem nD τ sig → sProp 𝕄} {S : Finset (GSem nD τ sig)} {g : GSem nD τ sig} (h : g ∈ S) : bigSep S Ψ ⊢ Ψ g := bigSep_elim h

theorem fund (I : Dev nD → In F) {S Sd : Finset (GSem nD τ sig)} {T : Finset (GSem nD τ sig × ℕ × Bool)} (hd : Disjoint S Sd)
    (hb : ∀ c, barCell c ∈ S) (hs : ∀ c k, scell c k ∈ Sd) (hr : ∀ c k, rcell c k ∈ Sd)
    (hv : (bigSep Finset.univ fun c : Dev nD => (semVal (barCell c) 0 : sProp 𝕄)) ⊢ bigSep S fun g => (semVal g 0 : sProp 𝕄))
    (hat : (bigSep S fun g => (atPos ER g 0 ∅ 0 : sProp 𝕄)) ⊢ bigSep Finset.univ fun c : Dev nD => (atPos ER (barCell c) 0 ∅ 0 : sProp 𝕄))
    (ho : (bigSep Sd fun g => (openTok ER g : sProp 𝕄))
      ⊢ bigSep Finset.univ fun c : Dev nD => (bigSep Finset.univ fun k : Fin 30 => iprop(openTok ER (scell c k) ∗ openTok ER (rcell c k)) : sProp 𝕄))
    (ht : (bigSep T fun x => (dutyTok ER x.1 x.2.1 x.2.2 : sProp 𝕄))
      ⊢ bigSep Finset.univ fun c : Dev nD => iprop((dutyTok ER (barCell c) 0 false ∗ dutyTok ER (barCell c) 0 true)
        ∗ (bigSep Finset.univ fun k : Fin 30 => dutyTok ER (scell c k) 0 false) ∗ (bigSep Finset.univ fun k : Fin 30 => dutyTok ER (rcell c k) 0 false))) :
    iprop((bigSep Finset.univ fun c : Dev nD => (semVal (barCell c) 0 : sProp 𝕄)) ∗ BI.own (ER (launchOf S Sd T)))
      ⊢ (|={Set.univ}=> ∃ κ, recs (val I) κ ∗ reachBars ∗ bigSep Finset.univ (Lin (F := F)) : sProp 𝕄) := by
  iintro ⟨Hv, Hu⟩
  imod (Rounds.fund_launch ER (ringRd (val I)) hd (fun g _ h => h) T) $$ [Hv Hu] with ⟨%κ, -, #Hinv, #Hr, Hat, Hopen, Htok⟩
  · isplitl [Hv]
    · iapply hv $$ Hv
    · iexact Hu
  imodintro
  iexists κ
  isplitr
  · unfold recs
    iintro %c %k
    isplitr; · iapply (at_mem (Ψ := fun g => (cellInv ER (ringRd (val I)) (κ g) g : sProp 𝕄)) (Finset.mem_union_left Sd (hb c))); iexact Hinv
    isplitr; · iapply (at_mem (Ψ := fun g => (cellInv ER (ringRd (val I)) (κ g) g : sProp 𝕄)) (Finset.mem_union_right S (hs c k))); iexact Hinv
    iapply (at_mem (Ψ := fun g => (cellInv ER (ringRd (val I)) (κ g) g : sProp 𝕄)) (Finset.mem_union_right S (hr c k))); iexact Hinv
  isplitr
  · unfold reachBars
    iintro %c
    iapply (at_mem (Ψ := fun g => (reached ER g 0 : sProp 𝕄)) (hb c)); iexact Hr
  ihave Hat' := hat $$ Hat
  ihave Hopen' := ho $$ Hopen
  ihave Htok' := ht $$ Htok
  iapply (lin_intro (F := F))
  isplitl [Hat']; · iexact Hat'
  isplitl [Hopen'] <;> iassumption

/-- The same over the cells and tokens themselves. -/
theorem fund_cells (I : Dev nD → In F) :
    iprop((bigSep Finset.univ fun c : Dev nD => (semVal (barCell c) 0 : sProp 𝕄)) ∗ BI.own (ER (launchOf barCells scCells toks)))
      ⊢ (|={Set.univ}=> ∃ κ, recs (val I) κ ∗ reachBars ∗ bigSep Finset.univ (Lin (F := F)) : sProp 𝕄) :=
  fund I cells_disjoint (fun c => Finset.mem_map_of_mem barEmb (Finset.mem_univ c))
    (fun c k => Finset.mem_map_of_mem scEmb (Finset.mem_univ (c, Sum.inl k))) (fun c k => Finset.mem_map_of_mem scEmb (Finset.mem_univ (c, Sum.inr k)))
    (Entails.of_eq (bigSep_map (s := Finset.univ) barEmb (Φ := fun g : GSem nD τ sig => (semVal g 0 : sProp 𝕄))).symm)
    (Entails.of_eq (bigSep_map (s := Finset.univ) barEmb (Φ := fun g : GSem nD τ sig => (atPos ER g 0 ∅ 0 : sProp 𝕄))))
    (Entails.of_eq (by
      unfold scCells
      rw [bigSep_map, bigSep_univ_prod]
      exact bigSep_congr fun c _ => by
        rw [bigSep_univ_sum, bigSep_sep']; rfl))
    (Entails.of_eq (by
      unfold toks
      rw [bigSep_map, bigSep_univ_prod]
      exact bigSep_congr fun c _ => by
        rw [bigSep_univ_sum, bigSep_univ_sum, show (Finset.univ : Finset Bool) = {false, true} from by decide, bigSep_insert (by decide), bigSep_singleton]; rfl))

/-! ## Dealing -/

/-- What a device needs of the protocol before its kernel begins, its own cells still to be opened. -/
def Deal (c : Dev nD) : sProp 𝕄 :=
  iprop((atPos ER (barCell c) 0 ∅ 0 ∗ dutyTok ER (barCell (left c)) 0 false ∗ dutyTok ER (barCell (right c)) 0 true)
    ∗ (bigSep Finset.univ fun k : Fin 30 => iprop(openTok ER (scell c k) ∗ openTok ER (rcell c k)))
    ∗ (bigSep Finset.univ fun k : Fin 30 => iprop(dutyTok ER (scell c k) 0 false ∗ dutyTok ER (rcell (tgt c k) k) 0 false)))

/-- Tokens of arriving transfers go to the senders, tokens of signals to the signallers. -/
theorem deal : (bigSep Finset.univ (Lin (F := F))) ⊢ (bigSep Finset.univ (Deal (F := F)) : sProp 𝕄) := by
  have hr : (bigSep Finset.univ fun c : Dev nD => bigSep Finset.univ fun k : Fin 30 => (dutyTok ER (rcell c k) 0 false : sProp 𝕄))
      = bigSep Finset.univ fun c : Dev nD => bigSep Finset.univ fun k : Fin 30 => (dutyTok ER (rcell (tgt c k) k) 0 false : sProp 𝕄) := by
    rw [bigSep_univ_comm, bigSep_univ_comm (fun (c : Dev nD) (k : Fin 30) => (dutyTok ER (rcell (tgt c k) k) 0 false : sProp 𝕄))]
    exact bigSep_congr fun k _ => bigSep_univ_equiv (tgtE k) _
  have hf : (bigSep Finset.univ fun c : Dev nD => (dutyTok ER (barCell c) 0 false : sProp 𝕄))
      = bigSep Finset.univ fun c : Dev nD => (dutyTok ER (barCell (left c)) 0 false : sProp 𝕄) := bigSep_univ_equiv ring.symm _
  have ht : (bigSep Finset.univ fun c : Dev nD => (dutyTok ER (barCell c) 0 true : sProp 𝕄))
      = bigSep Finset.univ fun c : Dev nD => (dutyTok ER (barCell (right c)) 0 true : sProp 𝕄) := bigSep_univ_equiv ring _
  unfold Lin Deal
  simp only [bigSep_sep']
  rw [hr, hf, ht]
  iintro ⟨Ha, Ho, ⟨Hf, Ht⟩, Hs, Hr⟩
  isplitl [Ha Hf Ht]
  · isplitl [Ha]; · iexact Ha
    isplitl [Hf] <;> iassumption
  isplitl [Ho]; · iexact Ho
  isplitl [Hs] <;> iassumption

/-! ## The credit -/

def credits (c : Dev nD) : sProp 𝕄 :=
  iprop(cred (tallyAt (barCell c) () 2) ∗ bigSep Finset.univ fun k : Fin 30 => cred (tallyAt (rcell c k) () N))

theorem creds (c : Dev nD) : (Pipeline.launchCred O₀ c : sProp 𝕄) ⊢ credits c := by
  have h1 := Pipeline.launchCred_add (Name := ℕ) (U := UU) (Val := Elt F) (Lvl := ℕ) (fun d : Dev nD => owedT d 0 + tallyAt (barCell (right d)) () 1)
    (fun d => tallyAt (barCell (left d)) () 1) c
  have h2 := Pipeline.launchCred_add (Name := ℕ) (U := UU) (Val := Elt F) (Lvl := ℕ) (fun d : Dev nD => owedT d 0)
    (fun d => tallyAt (barCell (right d)) () 1) c
  have h3 := Pipeline.launchCred_sum (Name := ℕ) (U := UU) (Val := Elt F) (Lvl := ℕ) (Finset.univ.filter fun k : Fin 30 => 0 ≤ k.val)
    (fun k (d : Dev nD) => tallyAt (rcell (tgt d k) k) () N) c
  have e1 := Pipeline.launchCred_tallyAt (τ := τ) (Name := ℕ) (U := UU) (Val := Elt F) (Lvl := ℕ) (.reg barS) right left right_left left_right () 1 c
  have e2 := Pipeline.launchCred_tallyAt (τ := τ) (Name := ℕ) (U := UU) (Val := Elt F) (Lvl := ℕ) (.reg barS) left right left_right right_left () 1 c
  have e3 : (bigSep (Finset.univ.filter fun k : Fin 30 => 0 ≤ k.val) fun k => (Pipeline.launchCred (fun d : Dev nD => tallyAt (rcell (tgt d k) k) () N) c : sProp 𝕄))
      ⊢ bigSep Finset.univ fun k : Fin 30 => (cred (tallyAt (rcell c k) () N) : sProp 𝕄) := by
    rw [show (Finset.univ.filter fun k : Fin 30 => 0 ≤ k.val) = Finset.univ from by decide]
    exact bigMono fun k => Pipeline.launchCred_tallyAt (.dma (rsem k)) (fun d => tgt d k) (fun d => from_ d k) (fun d => tgt_from d k) (fun d => from_tgt d k) () N c
  refine (Entails.of_eq (h1.trans (congrArg (fun P => iprop(P ∗ _)) (h2.trans (congrArg (fun P => iprop(P ∗ _)) h3))))).trans ?_
  unfold credits
  iintro ⟨⟨Hk, Hr⟩, Hl⟩
  ihave Hk' := e3 $$ Hk
  ihave Hr' := e1 $$ Hr
  ihave Hl' := e2 $$ Hl
  isplitr [Hk']
  · rw [show (tallyAt (barCell c) () 2 : CellTallies nD τ sig Unit) = tallyAt (barCell c) () 1 + tallyAt (barCell c) () 1 from (tallyAt_add (barCell c) () 1 1).symm]
    iapply (cred_add _ _).2
    isplitl [Hr'] <;> iassumption
  iexact Hk'

/-! ## The region's record -/

variable (m : (ℓ : Loc nD τ sig) → Buf (Elt F) ℓ)

/-- What a device carries from launch to its kernel, -/
def Tk (c : Dev nD) : sProp 𝕄 := iprop(((∃ κ, recs (val (inp m)) κ) ∗ reachBars) ∗ Deal c ∗ credits c)
/-- and away from it. -/
def Tk' (c : Dev nD) : sProp 𝕄 := semVal (barCell c) 0

theorem own_eq (c : Dev nD) : (Pipeline.ownSems0 osem c : sProp 𝕄) = bigSep Finset.univ (Done c) := by
  unfold Pipeline.ownSems0 Done
  rw [bigSep_univ_sum, bigSep_sep']; rfl

/-- Opening one transfer's two cells. -/
theorem open_at (κ : GSem nD τ sig → ℕ) (c : Dev nD) (k : Fin 30) :
    iprop(recs (val (inp m)) κ ∗ ((openTok ER (scell c k) ∗ openTok ER (rcell c k)) ∗ Done c k))
      ⊢ (|={Set.univ}=> ((atPos ER (scell c k) 0 ∅ 0 ∗ reached ER (scell c k) 0) ∗ atPos ER (rcell c k) 0 ∅ 0 ∗ reached ER (rcell c k) 0) : sProp 𝕄) := by
  unfold Done
  iintro ⟨#HR, ⟨Ho, Ho'⟩, Hs, Hr⟩
  imod (Rounds.cell_open ER (ringRd (val (inp m))) (g := scell c k) (Set.mem_univ (κ (scell c k)))) $$ [Ho Hs] with ⟨Ha, #Hq⟩
  · isplitr; · iapply (rec_s (val (inp m)) κ c k); iexact HR
    isplitl [Ho] <;> iassumption
  imod (Rounds.cell_open ER (ringRd (val (inp m))) (g := rcell c k) (Set.mem_univ (κ (rcell c k)))) $$ [Ho' Hr] with ⟨Hb, #Hq'⟩
  · isplitr; · iapply (rec_r (val (inp m)) κ c k); iexact HR
    isplitl [Ho'] <;> iassumption
  imodintro
  isplitl [Ha]
  · isplitl [Ha]; · iexact Ha
    iexact Hq
  isplitl [Hb]; · iexact Hb
  iexact Hq'

theorem open_all (κ : GSem nD τ sig → ℕ) (c : Dev nD) :
    iprop(recs (val (inp m)) κ ∗ (bigSep Finset.univ fun k : Fin 30 => iprop(openTok ER (scell c k) ∗ openTok ER (rcell c k))) ∗ bigSep Finset.univ (Done c))
      ⊢ (|={Set.univ}=> bigSep Finset.univ fun k : Fin 30 => iprop((atPos ER (scell c k) 0 ∅ 0 ∗ reached ER (scell c k) 0) ∗ atPos ER (rcell c k) 0 ∅ 0 ∗ reached ER (rcell c k) 0) : sProp 𝕄) := by
  rw [← bigSep_sep']
  exact (bigSep_with_persistent fun k _ => open_at m κ c k).trans (bigSep_fupd _ _)

theorem opened (c : Dev nD) : iprop((bigSep Finset.univ fun k : Fin 30 => iprop((atPos ER (scell c k) 0 ∅ 0 ∗ reached ER (scell c k) 0) ∗ atPos ER (rcell c k) 0 ∅ 0 ∗ reached ER (rcell c k) 0))
      ∗ (bigSep Finset.univ fun k : Fin 30 => iprop(dutyTok ER (scell c k) 0 false ∗ dutyTok ER (rcell (tgt c k) k) 0 false))
      ∗ bigSep Finset.univ fun k : Fin 30 => cred (tallyAt (rcell c k) () N))
    ⊢ (iprop((bigSep Finset.univ fun k : Fin 30 => reached ER (rcell c k) 0) ∗ bigSep Finset.univ (Snd c) ∗ bigSep Finset.univ (Rcv c)) : sProp 𝕄) := by
  unfold Snd Rcv
  simp only [bigSep_sep']
  iintro ⟨⟨⟨Ha, Hq⟩, Hb, Hq'⟩, ⟨Ht, Ht'⟩, Hc⟩
  isplitl [Hq']; · iexact Hq'
  isplitl [Ht Ht' Hq]
  · isplitl [Ht]; · iexact Ht
    isplitl [Ht'] <;> iassumption
  isplitl [Ha]; · iexact Ha
  isplitl [Hb] <;> iassumption

theorem hopen (c : Dev nD) : iprop(Tk m c ∗ Pipeline.ownSems0 osem c ∗ levAts L lv) ⊢ (|={Set.univ}=> Xk m c : sProp 𝕄) := by
  rw [own_eq]
  unfold Tk Deal credits Xk
  iintro ⟨⟨⟨⟨%κ, #HR⟩, #HB⟩, ⟨⟨Ha, Hf, Ht⟩, Ho, Hd⟩, Hc, Hcr⟩, HD, #Hlev⟩
  imod (open_all m κ c) $$ [Ho HD] with Hop
  · isplitr; · iexact HR
    isplitl [Ho] <;> iassumption
  imodintro
  ihave H := (opened (F := F) c) $$ [Hop Hd Hcr]
  · isplitl [Hop]; · iexact Hop
    isplitl [Hd] <;> iassumption
  isplitr
  · iexists κ; iexact HR
  isplitr; · iexact Hlev
  isplitl [Ha Hc Hf Ht]
  · unfold Bar reachBars
    isplitl [Ha]; · iexact Ha
    isplitl [Hc]; · iexact Hc
    isplitl [Hf]; · iexact Hf
    isplitl [Ht]; · iexact Ht
    isplitr
    · iapply HB
    · iapply HB
  iexact H

theorem tally_pos {g g' : GSem nD τ sig} {i j : Unit} {n : ℕ} (h : 0 < (tallyAt g' j n : CellTallies nD τ sig Unit) g i) : g = g' := by
  rw [tallyAt_apply] at h
  split at h
  · next hg => exact hg.1
  · exact absurd h (Nat.lt_irrefl 0)

theorem lv_bar (c : Dev nD) (i : Unit) : i ∈ L (barCell c) ∧ 0 < lv (barCell c) i :=
  ⟨by rw [L_tc]; exact Finset.mem_singleton_self _, Nat.one_pos⟩

theorem lv_recv (c : Dev nD) (k : Fin 30) (i : Unit) : i ∈ L (rcell c k) ∧ 0 < lv (rcell c k) i :=
  ⟨by rw [L_tc]; exact Finset.mem_singleton_self _, by rw [show lv (rcell c k) i = k.val + 2 from lv_r c k]; exact Nat.succ_pos _⟩

theorem lv_pos (c : Dev nD) (g : GSem nD τ sig) (i : Unit) (h : 0 < O₀ c g i) : i ∈ L g ∧ 0 < lv g i := by
  unfold O₀ at h
  rw [Pi.add_apply, Finsupp.add_apply] at h
  rcases Nat.add_pos_iff_pos_or_pos.mp h with h | h
  · rw [Pi.add_apply, Finsupp.add_apply] at h
    rcases Nat.add_pos_iff_pos_or_pos.mp h with h | h
    · obtain ⟨k, -, hk⟩ := owedT_mem c 0 g i h
      rw [hk]; exact lv_recv _ k i
    · rw [tally_pos h]; exact lv_bar _ i
  · rw [tally_pos h]; exact lv_bar _ i

abbrev dats (p : Fin 1) (c : Dev nD) : Pipeline.Dat τ (Elt F) Unit ℕ UU ℕ (cfgs p) c := dat m c

/-- What the kernel leaves in the array it writes. -/
def outs : Outs (F := F) := fun _ r c => Function.update (V1 m c) (Proc.devRef .tc main_v20) (outV (inp m)) (Proc.devRef .tc r)

theorem V2_res (c : Dev nD) : V2 m (outs m) c main_v20 = outV (inp m) := by
  show Function.update (V1 m c) (Proc.devRef .tc main_v20) (outs m 2 main_v20 c) (Proc.devRef .tc main_v20) = _
  rw [Function.update_self]
  exact Function.update_self ..

theorem cutD (c : Dev nD) (t : Fin (cfg0.N + 1)) (g : GSem nD τ sig) (i : Unit) (h : 0 < (dat m c).owed t g i) : i ∈ L g ∧ (0 : ℕ) < lv g i := by
  have h' : 0 < (if t.val = 0 then O₀ c else 0 : CellTallies nD τ sig Unit) g i := h
  split at h'
  · exact lv_pos c g i h'
  · exact absurd h' (Nat.lt_irrefl 0)

abbrev restRefs : Finset (DevRef τ sig) := Pipeline.ucRefs τ sig \ Pipeline.arrRefs (τ := τ) spec0

theorem arr_notin_rest (b : DevRef τ sig) (h : b ∈ restRefs) : b ≠ Proc.devRef .tc main_v20 := fun hb => by
  rw [hb] at h
  exact (Finset.mem_sdiff.mp h).2 (Finset.mem_map.mpr ⟨Pipeline.arrRef spec0 5, Finset.mem_image_of_mem _ (Finset.mem_univ _), rfl⟩)

theorem hin (c : Dev nD) :
    iprop(Pipeline.scopedRest spec0 c ∗ (∃ r, prngReg c r) ∗ StableHlo.held (c.tc : Thread nD τ) ∅ (V1 m c) ∗ Xk m c) ⊢ (dat m c).Φ 0 := by
  rw [scopedRest0_eq, show (dat m c).Φ 0 = phi0 m c from rfl]
  unfold phi0 scr
  iintro ⟨Hs, Hp, -, HX⟩
  isplitl [HX]; · iexact HX
  isplitl [Hs]; · iexact Hs
  iexact Hp

theorem hout (c : Dev nD) : (dat m c).Φ (Fin.last cfg0.N)
    ⊢ iprop(Pipeline.scopedRest spec0 c ∗ (∃ r, prngReg c r) ∗ StableHlo.held (c.tc : Thread nD τ) ∅ (V2 m (outs m) c)
      ∗ Pipeline.ownSems0 osem c ∗ semVal (barCell c) 0) := by
  rw [scopedRest0_eq, show (dat m c).Φ (Fin.last cfg0.N) = phi1 c from rfl, own_eq]
  unfold phi1 scr
  iintro ⟨Hb, Hd, Hs, Hp⟩
  isplitl [Hs]; · iexact Hs
  isplitl [Hp]; · iexact Hp
  isplitr
  · unfold StableHlo.held; rw [BI.bigSep_empty]; iempintro
  isplitl [Hd] <;> iassumption

theorem lv_stage : ∀ (w : Fin 6) (s : Fin (cfg0.win w).nbuf), lvOf (.dma ((cfg0.win w).sem s)) ≤ 0 := by decide +kernel

theorem arr_in (c : Dev nD) (w : Fin 6) : (dat m c).arrAt w 0 = V1 m c (Proc.devRef .tc (Pipeline.arrRef spec0 w)) := rfl

theorem whole5 : (cfg0.win 5).WholeAt t0_0 := by decide +kernel

theorem arr_res (c : Dev nD) : (dat m c).arrAt 5 cfg0.N = outV (inp m) := by
  refine (dat m c).arrAt_eq_of_after_last 5 t0_0 whole5 _ fun j => ?_
  rfl

theorem arr_out (c : Dev nD) : ∀ w : Fin 6, (dat m c).arrAt w cfg0.N = V2 m (outs m) c (Proc.devRef .tc (Pipeline.arrRef spec0 w))
  | 0 => ((dat m c).arrAt_in 0 rfl _).trans (V2_of m (outs m) c main_v5 (by decide)).symm
  | 1 => ((dat m c).arrAt_in 1 rfl _).trans (V2_of m (outs m) c main_arg1 (by decide)).symm
  | 2 => ((dat m c).arrAt_in 2 rfl _).trans (V2_of m (outs m) c main_v18 (by decide)).symm
  | 3 => ((dat m c).arrAt_in 3 rfl _).trans (V2_of m (outs m) c main_v19 (by decide)).symm
  | 4 => ((dat m c).arrAt_in 4 rfl _).trans (V2_of m (outs m) c main_arg4 (by decide)).symm
  | 5 => (arr_res m c).trans (V2_res m c).symm

set_option backward.isDefEq.respectTransparency.types false in
def reg : Pipeline.RegionSeg (pcfgs (F := F)) adm (dats m) () defs₀ 𝒱₀ L lv 0 :=
  Pipeline.RegionSeg.ofTalk (pcfgs (F := F)) adm (dats m) () defs₀ 𝒱₀ L lv 0 osem osem_facts
    ∅ restRefs (Finset.empty_subset _) launch0.toP rfl (fun c => (body_region m c).loose)
    (fun _ => 0) O₀ (fun c => (show O₀ c = 0 + O₀ c from (zero_add _).symm)) (fun c => rfl) (fun _ => rfl) (fun c w => (dat m c).share_full (fun _ => rfl) w)
    (V1 m) (V2 m (outs m)) (fun c b hb => Function.update_of_ne (arr_notin_rest b (Finset.mem_sdiff.mp hb).1) _ _)
    (Tk m) Tk' (Xk m) Tk' (hopen m) (hin m) (hout m)
    (fun c => by iintro H; imodintro; iexact H)
    (fun _ => 0)
    ⟨fun c w s => by rw [L_tc]; exact Finset.mem_singleton_self _, fun c w s => lv_stage w s, fun c t g i h => cutD m c t g i h⟩
    (fun _ => iprop(emp))
    (fun c w => arr_in m c w) (fun c w => arr_out m c w)

/-! ## The run -/

/-- What rides beside the buffers before the kernel and after it. -/
def rest0 (c : Dev nD) : sProp 𝕄 := iprop((∃ r, prngReg c r) ∗ Tk m c ∗ ∃ W, owes (c : Thread nD τ) (O₀ c) W)
def rest1 (c : Dev nD) : sProp 𝕄 := iprop(semVal (barCell c) 0 ∗ ∃ W, owes (c : Thread nD τ) (0 : CellTallies nD τ sig Unit) W)
def E : Fin 2 → Dev nD → sProp 𝕄
  | 0 => rest0 m
  | 1 => rest1

theorem arr_sub : Pipeline.arrRefs (τ := τ) spec0 ⊆ Pipeline.ucRefs τ sig := Pipeline.arrRefs_sub_ucRefs spec0 (by decide)

theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) restRefs (V1 m c) ∗ emp) ∗ Tk m c ∗ ∃ Wd, owes (c : Thread nD τ) (0 + O₀ c) Wd)
  rw [zero_add, StableHlo.held_sub_split _ arr_sub, show E m 0 c = rest0 m c from rfl]
  unfold rest0
  iintro ⟨⟨Ha, Hr⟩, Hp, HT, HO⟩
  isplitl [Ha]; · iexact Ha
  isplitl [Hp]; · iexact Hp
  isplitl [Hr]
  · isplitl [Hr]; · iexact Hr
    iempintro
  isplitl [HT] <;> iassumption

theorem reg_post (c : Dev nD) : (reg m).post c ⊢ iprop(StableHlo.held (c : Thread nD τ) (Pipeline.ucRefs τ sig) (V2 m (outs m) c) ∗ E m 1 c) := by
  show iprop(StableHlo.held (c.tc : Thread nD τ) (Pipeline.arrRefs (τ := τ) spec0) (V2 m (outs m) c) ∗ (∃ r, prngReg c r)
    ∗ (StableHlo.held (c.tc : Thread nD τ) restRefs (V2 m (outs m) c) ∗ emp) ∗ semVal (barCell c) 0 ∗ ∃ Wd, owes (c : Thread nD τ) (0 : CellTallies nD τ sig Unit) Wd) ⊢ _
  rw [StableHlo.held_sub_split _ arr_sub (V2 m (outs m) c), show E m 1 c = rest1 c from rfl]
  unfold rest1
  iintro ⟨Ha, -, ⟨Hr, -⟩, Hb, HO⟩
  isplitl [Ha Hr]
  · isplitl [Ha] <;> iassumption
  isplitl [Hb] <;> iassumption

/-- The launch element. -/
def u₀ : UU :=
  (initOf (Pipeline.cells cfgs cellOf_inj) (Pipeline.launchToks cfgs cellOf_inj), launchOf barCells scCells toks)

/-- A resource handed to device 0 alone, until it is dealt. -/
def onFirst (X : sProp 𝕄) (c : Dev nD) : sProp 𝕄 := if c = 0 then X else iprop(emp)
theorem bigSep_onFirst (X : sProp 𝕄) : bigSep Finset.univ (onFirst X) = X := by
  rw [bigSep_univ_at _ (0 : Dev nD), bigSep_congr (s := Finset.univ.erase 0) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def G : Dev nD → sProp 𝕄 := onFirst (BI.own (ER (launchOf barCells scCells toks)))

theorem unscoped_eq : ∀ sm : SemLoc sig, sm.isScoped .tc = false → sm = .reg barS := by decide +kernel

theorem unscoped_sems (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

theorem rest0_intro (ρ : Dev nD → PrngReg) (κ : GSem nD τ sig → ℕ) (c : Dev nD) :
    iprop((recs (val (inp m)) κ ∗ reachBars) ∗ Deal c ∗ Pipeline.launchCred O₀ c ∗ owes (c : Thread nD τ) (O₀ c) ∅ ∗ prngReg c (ρ c)) ⊢ rest0 m c := by
  unfold rest0 Tk
  iintro ⟨⟨#HR, #HB⟩, Hd, Hcr, HO, Hp⟩
  ihave Hcr' := (creds (F := F) c) $$ Hcr
  isplitl [Hp]; · iexists (ρ c); iexact Hp
  isplitr [HO]
  · isplitr
    · isplitr; · iexists κ; iexact HR
      iexact HB
    isplitl [Hd] <;> iassumption
  iexists ∅; iexact HO

theorem launch_rest (ρ : Dev nD → PrngReg) :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (rest0 m) : sProp 𝕄) := by
  have hs : (bigSep Finset.univ fun c : Dev nD => (iprop(unscopedSems0 c ∗ owes (c : Thread nD τ) (O₀ c) ∅ ∗ Pipeline.launchCred O₀ c ∗ prngReg c (ρ c) ∗ G c) : sProp 𝕄))
      ⊢ iprop((bigSep Finset.univ fun c : Dev nD => (semVal (barCell c) 0 : sProp 𝕄)) ∗ (bigSep Finset.univ fun c : Dev nD => owes (c : Thread nD τ) (O₀ c) ∅)
        ∗ (bigSep Finset.univ fun c : Dev nD => Pipeline.launchCred O₀ c) ∗ (bigSep Finset.univ fun c : Dev nD => prngReg c (ρ c)) ∗ BI.own (ER (launchOf barCells scCells toks))) := by
    rw [bigSep_sep', bigSep_sep', bigSep_sep', bigSep_sep', show bigSep Finset.univ (fun c : Dev nD => G (F := F) c) = _ from bigSep_onFirst _,
      bigSep_congr fun c _ => unscoped_sems c]
  iintro ⟨H, -⟩
  ihave H' := hs $$ H
  icases H' with ⟨Hb, HO, Hcr, Hp, Hu⟩
  imod (fund_cells (inp m)) $$ [Hb Hu] with ⟨%κ, #HR, #HB, Hl⟩
  · isplitl [Hb] <;> iassumption
  imodintro
  ihave Hd := (deal (F := F)) $$ Hl
  iapply (bigSep_with_persistent (R := iprop(recs (val (inp m)) κ ∗ reachBars))
    (Φ := fun c => iprop(Deal c ∗ Pipeline.launchCred O₀ c ∗ owes (c : Thread nD τ) (O₀ c) ∅ ∗ prngReg c (ρ c))) fun c _ => rest0_intro m ρ κ c)
  isplitr
  · isplitr; · iexact HR
    iexact HB
  rw [bigSep_sep', bigSep_sep', bigSep_sep']
  isplitl [Hd]; · iexact Hd
  isplitl [Hcr]; · iexact Hcr
  isplitl [HO] <;> iassumption

theorem launch_all (ρ : Dev nD → PrngReg) :
    iprop((bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) (Pipeline.ucRefs τ sig) (V0 m c) ∗ E m 0 c) : sProp 𝕄) := by
  have hsplit : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c ∗ prngReg c (ρ c) ∗ G c)) : sProp 𝕄) := by
    rw [← bigSep_sep']
    exact bigSep_mono fun c _ => by rw [← Pipeline.unscopedBufs_held (Ix := Unit) (Name := ℕ) (U := UU) (Lvl := ℕ) c (V0 m c)]; exact BI.Entails.refl _
  iintro ⟨H, Hla⟩
  ihave H' := hsplit $$ H
  icases H' with ⟨Hh, Hr⟩
  imod (launch_rest m ρ) $$ [Hr Hla] with HE
  · isplitl [Hr] <;> iassumption
  imodintro
  rw [bigSep_sep']
  isplitl [Hh]; · iexact Hh
  iexact HE

set_option backward.isDefEq.respectTransparency.types false in
/-- Every run ends with the arguments unchanged, the same result everywhere, and every counter at zero. -/
theorem run_main (ρ : Dev nD → PrngReg) : θ_run defs (onTc (τ := τ) (main (F := F))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_v21) = V3 m (outs m) c main_v21) ∧ r.2.sem = fun _ => 0) := by
  refine Pipeline.θ_run_regions_kit_dev_sems (pcfgs (F := F)) adm (dats m) () cellOf_inj EP defs₀ 𝒱₀ L lv m ρ main
    (segs m (outs m) 𝒱₀ L lv (E m) () (dats m) (reg m))
    (fun c Q => by
      rewrite [main_chain c, Pipeline.Seg.run_eq_chain,
        show (segs m (outs m) 𝒱₀ L lv (E m) () (dats m) (reg m) c).map Pipeline.Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Pipeline.Seg.pipes_host, Pipeline.Seg.pipes_region, Pipeline.Seg.pipes_nil]; decide) O₀ L_of_ne G u₀
    (by
      unfold u₀ G
      iintro Hu
      ihave H := (ownU_pair _ _) $$ Hu
      icases H with ⟨HP, HX⟩
      imodintro
      isplitl [HP]; · iexact HP
      rw [bigSep_onFirst]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (V3 m (outs m) c) ∗ semVal (barCell c) 0))
    (hch := fun c => ⟨.rfl, reg_pre m c, reg_post m c, ?_⟩)
    (hinit := launch_all m ρ)
    (QY := fun c s => (∀ r : Ref sig .tc, (Proc.devRef .tc r : DevRef τ sig).isScoped = false → s.mem ((c.tc : Thread nD τ).loc r) = V3 m (outs m) c r)
      ∧ s.sem (barCell c) = 0)
    (hfin := fun c s' => ?_) (hQ := fun s h hs => ?_)
  · show iprop(StableHlo.held (c : Thread nD τ) (Pipeline.ucRefs τ sig) (V3 m (outs m) c) ∗ rest1 c) ⊢ _
    unfold rest1
    iintro ⟨Hh, Hb, HO⟩
    isplitr [HO]
    · isplitl [Hh] <;> iassumption
    iexact HO
  · unfold StableHlo.held
    iintro ⟨⟨Hh, Hb⟩, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    icombine HSI Hb gives %hb
    imodintro
    isplitr
    · ipureintro
      exact ⟨fun r hr => h (Proc.devRef .tc r) (Pipeline.devRef_mem_ucRefs hr), by simpa using hb⟩
    · iexact HSI
  · exact ⟨fun c => ⟨((h c).1 main_arg0 rfl).trans (V3_main_arg0 m (outs m) c), ((h c).1 main_arg1 rfl).trans (V3_main_arg1 m (outs m) c),
      ((h c).1 main_arg2 rfl).trans (V3_main_arg2 m (outs m) c), ((h c).1 main_arg3 rfl).trans (V3_main_arg3 m (outs m) c),
      ((h c).1 main_arg4 rfl).trans (V3_main_arg4 m (outs m) c), (h c).1 main_v21 rfl⟩,
      sem_eq_zero hs fun c sm hsm => by
        obtain rfl := unscoped_eq sm hsm
        exact (h c).2⟩

end Cert.KernelIdeal.Ring
-- ==== Proof.KernelAt.lean ====
module

public import proofs.«01_k».proof.Proof.Vals
public import Idealize.ShloMosaic.Lib.Pointwise
public import Idealize.ShloMosaic.Lib.IdealHost

@[expose] public section

noncomputable section

namespace Cert.KernelIdeal.Ring

open Cert.KernelIdeal Cert.KernelIdeal.Gen Idealize.ShloMosaic Idealize.ShloMosaic.TcCoe Idealize.SL.Sem

variable (i : In Ideal) (j : Fin 16)

/-- The first key row of a row block. -/
def t0 (j : Fin 16) : ℕ := min 1664 (128 * j.val - 128)
theorem t0_le (j : Fin 16) : t0 j + 384 ≤ 2048 := by unfold t0; omega
theorem keyRow_eq : ∀ j, keyRow (rowJ j) = BitVec.ofNat 32 (t0 j) := by decide +kernel

/-- The rows of `x` that a row block reads. -/
def xL : FVec Ideal S128x1024 .bf16 :=
  (Memref.whole cc0_stg0_0).view.readAt (Elt Ideal) (Rect.unit (s := S2048x1024) ![(Scalar.indexCast (rowJ j)).toNat, 0] S128x1024.size (rowOkJ j)).toLoadRect i.x
def wqL : FVec Ideal S1024x1024 .bf16 :=
  (Memref.whole cc0_stg1_0).view.readAt (Elt Ideal) (Rect.unit (s := S1024x1024) ![0, 0] S1024x1024.size inb_S1024x1024_S1024x1024_0_0).toLoadRect i.wq
def woL : FVec Ideal S1024x1024 .bf16 :=
  (Memref.whole cc0_stg4_0).view.readAt (Elt Ideal) (Rect.unit (s := S1024x1024) ![0, 0] S1024x1024.size inb_S1024x1024_S1024x1024_0_0).toLoadRect i.wo
def kL (h : Fin 8) : FVec Ideal S384x128 .bf16 :=
  (Memref.whole cc0_stg2_0).view.readAt (Elt Ideal) (keyR (rowJ j) (keyOkJ j) h).toLoadRect i.k
def vL (h : Fin 8) : FVec Ideal S384x128 .bf16 :=
  (Memref.whole cc0_stg3_0).view.readAt (Elt Ideal) (keyR (rowJ j) (keyOkJ j) h).toLoadRect i.v

theorem row_word (j : Fin 16) : (Scalar.indexCast (rowJ j)).toNat = 128 * j.val := by revert j; decide +kernel
theorem key_word (j : Fin 16) : (Scalar.indexCast (keyRow (rowJ j))).toNat = t0 j := by revert j; decide +kernel

/-! ## Loads read the operand at the rectangle's offset plus the position -/

theorem wqL_at (a b : Fin 1024) : wqL i (ix2 a b) = i.wq (ix2 a b) := by
  refine congrArg i.wq (funext fun q => Fin.ext ?_)
  fin_cases q
  · show 0 + 1 * a.val = a.val
    omega
  · show 0 + 1 * b.val = b.val
    omega
theorem woL_at (a b : Fin 1024) : woL i (ix2 a b) = i.wo (ix2 a b) := by
  refine congrArg i.wo (funext fun q => Fin.ext ?_)
  fin_cases q
  · show 0 + 1 * a.val = a.val
    omega
  · show 0 + 1 * b.val = b.val
    omega
theorem xL_at (r : Fin 128) (m : Fin 1024) : xL i j (ix2 r m) = i.x (ix2 ⟨128 * j.val + r.val, by omega⟩ m) := by
  refine congrArg i.x (funext fun q => Fin.ext ?_)
  fin_cases q
  · show (Scalar.indexCast (rowJ j)).toNat + 1 * r.val = 128 * j.val + r.val
    rw [row_word, one_mul]
  · show 0 + 1 * m.val = m.val
    omega
theorem kL_at (h : Fin 8) (t : Fin 384) (e : Fin 128) : kL i j h (ix2 t e)
    = i.k (ix2 ⟨t0 j + t.val, by have := t0_le j; omega⟩ ⟨128 * h.val + e.val, by omega⟩) := by
  refine congrArg i.k (funext fun q => Fin.ext ?_)
  fin_cases q
  · show (Scalar.indexCast (keyRow (rowJ j))).toNat + 1 * t.val = t0 j + t.val
    rw [key_word, one_mul]
  · show 128 * h.val + 1 * e.val = 128 * h.val + e.val
    omega
theorem vL_at (h : Fin 8) (t : Fin 384) (e : Fin 128) : vL i j h (ix2 t e)
    = i.v (ix2 ⟨t0 j + t.val, by have := t0_le j; omega⟩ ⟨128 * h.val + e.val, by omega⟩) := by
  refine congrArg i.v (funext fun q => Fin.ext ?_)
  fin_cases q
  · show (Scalar.indexCast (keyRow (rowJ j))).toNat + 1 * t.val = t0 j + t.val
    rw [key_word, one_mul]
  · show 128 * h.val + 1 * e.val = 128 * h.val + e.val
    omega

/-! ## The stages at an index -/

theorem queryV_at (x : FVec Ideal S128x1024 .bf16) (wq : FVec Ideal S1024x1024 .bf16) (r : Fin 128) (a : Fin 1024) :
    queryV x wq (ix2 r a) = ∑ m : Fin 1024, x (ix2 r m) * wq (ix2 m a) := by
  pointwise [queryV]

theorem weightV_at (q : FVec Ideal S128x128 .bf16) (bias : FVec Ideal S128x384 .bf16) (k : FVec Ideal S384x128 .bf16) (r : Fin 128) (t : Fin 384) :
    weightV q bias k (ix2 r t)
      = Ideal.exp ((∑ e : Fin 128, q (ix2 r e) * k (ix2 t e)) * (Named.named κ "scale" 0x3DB5#16 : Ideal .bf16) + bias (ix2 r t)) := by
  pointwise [weightV]

theorem headV_at (q : FVec Ideal S128x128 .bf16) (bias : FVec Ideal S128x384 .bf16) (k v : FVec Ideal S384x128 .bf16) (r d : Fin 128) :
    headV q bias k v (ix2 r d)
      = (∑ t : Fin 384, weightV q bias k (ix2 r t) * v (ix2 t d)) * Ideal.div 1 (∑ t : Fin 384, weightV q bias k (ix2 r t)) := by
  pointwise [headV]

theorem biasV_at (row0 : BitVec 32) (r : Fin 128) (t : Fin 384) : (biasV row0 : FVec Ideal S128x384 .bf16) (ix2 r t)
    = Scalar.select (IntOp.cmpi .sle (IntOp.absi (IntOp.subi (IntOp.addi row0 (BitVec.ofNat 32 r.val)) (IntOp.addi (keyRow row0) (BitVec.ofNat 32 t.val)))) 128#32)
        (0 : EReal) (Named.named κ "mask" 0xCE6E6B28#32 : Ideal .f32) := by
  pointwise [biasV]

/-- Where one head's columns of the queries begin. -/
theorem slice_ok (h : Fin 8) : S128x1024.Slices ![0, 128 * h.val] S128x128 := by
  revert h; decide +kernel

/-- One head's rows of a row block. -/
def headJ (h : Fin 8) : FVec Ideal S128x128 .bf16 :=
  headV (extractStridedSlice S128x128 ![0, 128 * h.val] (queryV (xL i j) (wqL i)) (slice_ok h)) (biasV (rowJ j)) (kL i j h) (vL i j h)

/-- Eight heads' rows, side by side. -/
def catV (g0 g1 g2 g3 g4 g5 g6 g7 : FVec Ideal S128x128 .bf16) : FVec Ideal S128x1024 .bf16 :=
  concatenate S128x1024 1 [⟨S128x128, g0⟩, ⟨S128x128, g1⟩, ⟨S128x128, g2⟩, ⟨S128x128, g3⟩, ⟨S128x128, g4⟩, ⟨S128x128, g5⟩, ⟨S128x128, g6⟩, ⟨S128x128, g7⟩]
    concatenates_S128x128_S128x128_S128x128_S128x128_S128x128_S128x128_S128x128_S128x128_S128x1024_d1

/-- A row block from its heads' rows. -/
def projV (g : FVec Ideal S128x1024 .bf16) (wo : FVec Ideal S1024x1024 .bf16) : FVec Ideal S128x1024 .bf16 :=
  truncf .bf16
    (matmul dot_S128x1024_S1024x1024_S128x1024_1_0_0_1_n_n none g
      (shapeCast S1024x1024 wo shapeCasts_S1024x1024_S1024x1024 : FVec Ideal S1024x1024 .bf16)
      (constant S128x1024 .f32 0x00000000#32 : FVec Ideal S128x1024 .f32)) bitsLt_bf16_f32

theorem projV_at (g : FVec Ideal S128x1024 .bf16) (wo : FVec Ideal S1024x1024 .bf16) (r : Fin 128) (n : Fin 1024) :
    projV g wo (ix2 r n) = ∑ x : Fin 1024, g (ix2 r x) * wo (ix2 x n) := by
  pointwise [projV]

theorem catV_at (g : Fin 8 → FVec Ideal S128x128 .bf16) (h : Fin 8) (r d : Fin 128) :
    catV (g 0) (g 1) (g 2) (g 3) (g 4) (g 5) (g 6) (g 7) (ix2 r ⟨h.val * 128 + d.val, by omega⟩) = g h (ix2 r d) := by
  have hd := d.isLt
  pointwise [catV]
  obtain ⟨h, hh⟩ := h
  interval_cases h
  all_goals
    simp only
    repeat (first | rw [dif_pos (by omega)] | rw [dif_neg (by omega)])
    refine congrArg (fun z => g _ (ix2 r z)) (Fin.ext ?_)
    show _ = d.val
    simp only
    omega

theorem blkJ_eq : blkJ i j = projV (catV (headJ i j 0) (headJ i j 1) (headJ i j 2) (headJ i j 3) (headJ i j 4) (headJ i j 5) (headJ i j 6) (headJ i j 7)) (woL i) := rfl

theorem blkJ_at (r : Fin 128) (n : Fin 1024) : blkJ i j (ix2 r n)
    = ∑ h : Fin 8, ∑ d : Fin 128, headJ i j h (ix2 r d) * i.wo (ix2 ⟨h.val * 128 + d.val, by omega⟩ n) := by
  rw [blkJ_eq, projV_at, Fin.sum_univ_tiles 8 128 rfl]
  refine Finset.sum_congr rfl fun h _ => Finset.sum_congr rfl fun d _ => ?_
  rw [woL_at, catV_at (headJ i j)]

end Cert.KernelIdeal.Ring
-- ==== Proof.Math.lean ====
/-
The arithmetic of windowed attention over the extended reals. A row of scores is real; a key
outside the window has weight zero. The kernel divides a row of exponentials by its sum after
the product with the values; the reference first takes off the largest score and divides before
that product. Both are one number, also where a value is infinite.
-/
module

public import Idealize.ShloMosaic.Lib.IdealHost

@[expose] public section

namespace Cert.Attn

open Idealize.ShloMosaic

/-- A finite sum of reals, read in the extended reals. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into any finite sum. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
      rw [Finset.sum_insert ha, Finset.sum_insert ha, ← ih]
      exact EReal.right_distrib_of_nonneg_of_ne_top (by exact_mod_cast hr) (EReal.coe_ne_top r) _ _

/-- The weight of a key before division: the exponential of its score, or zero outside the window. -/
noncomputable def expo {N : ℕ} (near : Fin N → Prop) [DecidablePred near] (s : Fin N → ℝ)
    (k : Fin N) : ℝ := if near k then Real.exp (s k) else 0

section Row

variable {N : ℕ} (near : Fin N → Prop) [DecidablePred near] (s : Fin N → ℝ)

theorem expo_nonneg (k : Fin N) : 0 ≤ expo near s k := by
  unfold expo; split
  · exact (Real.exp_pos _).le
  · exact le_rfl

theorem expo_sum_pos {k₀ : Fin N} (h : near k₀) : 0 < ∑ k, expo near s k :=
  Finset.sum_pos' (fun k _ => expo_nonneg near s k)
    ⟨k₀, Finset.mem_univ _, by unfold expo; rw [if_pos h]; exact Real.exp_pos _⟩

/-- A row's scores as the reference has them: minus infinity outside the window. -/
noncomputable def masked (k : Fin N) : EReal := if near k then (s k : EReal) else ⊥

/-- The largest masked score is a real number. -/
theorem top_real {k₀ : Fin N} (h : near k₀) :
    ∃ M : ℝ, Finset.fold max (⊥ : EReal) (masked near s) Finset.univ = (M : EReal) := by
  have hlt : Finset.fold max (⊥ : EReal) (masked near s) Finset.univ < ⊤ := by
    rw [Finset.fold_max_lt]
    refine ⟨bot_lt_top, fun k _ => ?_⟩
    unfold masked; split
    · exact EReal.coe_lt_top _
    · exact bot_lt_top
  have hgt : ⊥ < Finset.fold max (⊥ : EReal) (masked near s) Finset.univ := by
    rw [Finset.lt_fold_max]
    refine Or.inr ⟨k₀, Finset.mem_univ _, ?_⟩
    unfold masked; rw [if_pos h]; exact EReal.bot_lt_coe _
  exact ⟨_, (EReal.coe_toReal hlt.ne hgt.ne').symm⟩

/-- The exponential of a masked score with a real number taken off. -/
theorem exp_masked (M : ℝ) (k : Fin N) :
    Ideal.exp (masked near s k - (M : EReal)) = ((expo near s k * Real.exp (-M) : ℝ) : EReal) := by
  unfold masked expo; split
  · rw [← EReal.coe_sub, Ideal.exp_coe, sub_eq_add_neg, Real.exp_add]
  · rw [EReal.bot_sub, Ideal.exp_bot, zero_mul, EReal.coe_zero]

/-- The reference's weight of a key is its share in the row. -/
theorem share {k₀ : Fin N} (h : near k₀) (k : Fin N) :
    Ideal.div (Ideal.exp (masked near s k - Finset.fold max (⊥ : EReal) (masked near s) Finset.univ))
        (∑ t, Ideal.exp (masked near s t
          - Finset.fold max (⊥ : EReal) (masked near s) Finset.univ))
      = ((expo near s k / ∑ t, expo near s t : ℝ) : EReal) := by
  obtain ⟨M, hM⟩ := top_real near s h
  rw [hM, exp_masked, Finset.sum_congr rfl (fun t _ => exp_masked near s M t), ← coe_sum,
    ← Finset.sum_mul]
  have hL := expo_sum_pos near s h
  have hE := Real.exp_pos (-M)
  rw [Ideal.div_coe (mul_pos hL hE).ne', ← EReal.coe_mul]
  congr 1
  field_simp

/-- Dividing the weighted sum of the values is weighting the values by the shares. -/
theorem context {k₀ : Fin N} (h : near k₀) (v : Fin N → EReal) :
    (∑ t, (expo near s t : EReal) * v t) * Ideal.div 1 (∑ t, (expo near s t : EReal))
      = ∑ t, v t * ((expo near s t / ∑ t, expo near s t : ℝ) : EReal) := by
  have hL := expo_sum_pos near s h
  rw [← coe_sum, Ideal.div_coe hL.ne', one_mul, sum_mul_coe _ _ (by positivity)]
  refine Finset.sum_congr rfl fun t _ => ?_
  rw [mul_comm (expo near s t : EReal), mul_assoc, ← EReal.coe_mul]
  congr 2
  field_simp

end Row

/-- A sum over a band of keys is the sum over all keys when nothing lies outside the band. -/
theorem band {T N : ℕ} (t0 : ℕ) (ht : t0 + T ≤ N) (f : Fin N → EReal)
    (hf : ∀ k : Fin N, k.val < t0 ∨ t0 + T ≤ k.val → f k = 0) :
    ∑ t : Fin T, f ⟨t0 + t.val, by omega⟩ = ∑ k : Fin N, f k := by
  classical
  let e : Fin T ↪ Fin N := ⟨fun t => ⟨t0 + t.val, by omega⟩, fun a b h => by
    have := congrArg Fin.val h
    exact Fin.ext (by simpa using this)⟩
  have h1 : ∑ t : Fin T, f (e t) = ∑ k ∈ Finset.univ.map e, f k := (Finset.sum_map _ _ _).symm
  refine h1.trans (Finset.sum_subset (Finset.subset_univ _) fun k _ hk => hf k ?_)
  by_contra hc
  push Not at hc
  refine hk (Finset.mem_map.2 ⟨⟨k.val - t0, by omega⟩, Finset.mem_univ _, Fin.ext ?_⟩)
  show t0 + (k.val - t0) = k.val
  omega

/-- Two positions lie in one window: neither is more than 128 past the other. -/
def Near (i k : ℕ) : Prop := i ≤ k + 128 ∧ k ≤ i + 128

instance (i k : ℕ) : Decidable (Near i k) := inferInstanceAs (Decidable (_ ∧ _))

theorem sub_word (a b : ℕ) (ha : a < 4096) (hb : b < 4096) :
    (BitVec.ofNat 32 a - BitVec.ofNat 32 b).toInt = (a : ℤ) - b := by
  have hn : ∀ n : ℕ, n < 4096 → (BitVec.ofNat 32 n).toInt = n := fun n hn => by
    rw [BitVec.toInt_eq_toNat_cond, BitVec.toNat_ofNat]; split <;> omega
  rw [BitVec.toInt_sub, hn a ha, hn b hb]
  simp only [Int.bmod_def]
  omega

/-- The window test on 32-bit words. -/
theorem near_word (a b : ℕ) (ha : a < 4096) (hb : b < 4096) :
    IntOp.cmpi .sle (IntOp.absi (IntOp.subi (BitVec.ofNat 32 a) (BitVec.ofNat 32 b))) 128#32
      = if Near a b then 1#1 else 0#1 := by
  have h := sub_word a b ha hb
  generalize hd : BitVec.ofNat 32 a - BitVec.ofNat 32 b = d at h
  have hs : IntOp.subi (BitVec.ofNat 32 a) (BitVec.ofNat 32 b) = d := hd
  rw [hs]
  have habs : (IntOp.absi d).toInt = |d.toInt| := by
    unfold IntOp.absi
    have hm : d.msb = decide (d.toInt < 0) := by
      rw [BitVec.msb_eq_toInt]
    rw [hm]
    by_cases hneg : d.toInt < 0
    · simp only [hneg, decide_true, if_true]
      rw [abs_of_neg hneg, BitVec.toInt_neg]
      simp only [Int.bmod_def]
      omega
    · simp only [hneg, decide_false]
      rw [abs_of_nonneg (by omega)]
      simp
  have hc : IntOp.cmpi .sle (IntOp.absi d) 128#32
      = BitVec.ofBool ((IntOp.absi d).sle 128#32) := rfl
  rw [hc, BitVec.sle_eq_decide, habs, h]
  have h128 : (128#32 : BitVec 32).toInt = 128 := by decide
  rw [h128]
  by_cases hn : Near a b
  · rw [if_pos hn]
    obtain ⟨h1, h2⟩ := hn
    rw [decide_eq_true (by rw [abs_le]; constructor <;> omega)]
    rfl
  · rw [if_neg hn]
    rw [decide_eq_false (by
      rw [abs_le]; rintro ⟨h1, h2⟩
      exact hn ⟨by omega, by omega⟩)]
    rfl

/-! ## The attention of one problem, over the reals -/

section Problem

variable (X : Fin 2048 → Fin 1024 → ℝ) (W : Fin 1024 → Fin 16384 → ℝ) (K : Fin 2048 → Fin 128 → Fin 128 → ℝ)

/-- A query's score against a key, by head. -/
noncomputable def score (A : Fin 128) (i t : Fin 2048) : ℝ :=
  (∑ e : Fin 128, (∑ m : Fin 1024, X i m * W m ⟨A.val * 128 + e.val, by omega⟩) * K t A e) * (Real.sqrt 128)⁻¹

/-- The weight before division. -/
noncomputable def num (A : Fin 128) (i t : Fin 2048) : ℝ := expo (fun t : Fin 2048 => Near i.val t.val) (score X W K A i) t

/-- The attention weight. -/
noncomputable def prob (A : Fin 128) (i t : Fin 2048) : ℝ := num X W K A i t / ∑ t, num X W K A i t

theorem near_self (i : Fin 2048) : Near i.val i.val := ⟨by omega, by omega⟩

/-- Sums of products of reals, read in the extended reals. -/
theorem coe_dot {N : ℕ} (f g : Fin N → ℝ) : ∑ i, (f i : EReal) * (g i : EReal) = ((∑ i, f i * g i : ℝ) : EReal) := by
  rw [coe_sum]
  exact Finset.sum_congr rfl fun i _ => (EReal.coe_mul _ _).symm

end Problem

end Cert.Attn
-- ==== Proof.HeadAt.lean ====
/- One head's rows on one device are the attention of the whole problem for that head. -/
module

public import proofs.«01_k».proof.Proof.KernelAt
public import proofs.«01_k».proof.Proof.Math

@[expose] public section

noncomputable section

namespace Cert.KernelIdeal.Ring

open Cert.KernelIdeal Cert.KernelIdeal.Gen Idealize.ShloMosaic Idealize.ShloMosaic.TcCoe Idealize.SL.Sem Cert.Attn

variable (X : Fin 2048 → Fin 1024 → ℝ) (W : Fin 1024 → Fin 16384 → ℝ) (K : Fin 2048 → Fin 128 → Fin 128 → ℝ)

/-- One device's operands are its share of real arrays. -/
structure Share (c : Dev nD) (i : In Ideal) : Prop where
  x : ∀ p m, i.x (ix2 p m) = (X p m : EReal)
  wq : ∀ m a, i.wq (ix2 m a) = (W m ⟨1024 * c.val + a.val, by have : c.val < 16 := c.isLt; omega⟩ : EReal)
  k : ∀ t a, i.k (ix2 t a) = (K t ⟨8 * c.val + a.val / 128, by have : c.val < 16 := c.isLt; omega⟩ ⟨a.val % 128, by omega⟩ : EReal)

/-- A device's head, numbered among all heads. -/
def headOf (c : Dev nD) (h : Fin 8) : Fin 128 := ⟨8 * c.val + h.val, by have : c.val < 16 := c.isLt; omega⟩
/-- A row of a row block, numbered among all rows. -/
def rowOf (j : Fin 16) (r : Fin 128) : Fin 2048 := ⟨128 * j.val + r.val, by omega⟩

theorem mask_named : (Named.named κ "mask" 0xCE6E6B28#32 : Ideal .f32) = (⊥ : EReal) :=
  IdealRules.named_const.ideal_named_scalar κ "mask" _ _ rfl
theorem scale_named : (Named.named κ "scale" 0x3DB5#16 : Ideal .bf16) = (((Real.sqrt 128)⁻¹ : ℝ) : EReal) :=
  IdealRules.named_const.ideal_named_scalar κ "scale" _ _ rfl

theorem slice_at (q : FVec Ideal S128x1024 .bf16) (h : Fin 8) (r e : Fin 128) :
    extractStridedSlice S128x128 ![0, 128 * h.val] q (slice_ok h) (ix2 r e) = q (ix2 r ⟨128 * h.val + e.val, by omega⟩) := by
  refine congrArg q (funext fun a => Fin.ext ?_)
  fin_cases a
  · show 0 + r.val = r.val
    omega
  · rfl

/-- The queries of one head in one row block. -/
def queryJ (i : In Ideal) (j : Fin 16) (h : Fin 8) : FVec Ideal S128x128 .bf16 :=
  extractStridedSlice S128x128 ![0, 128 * h.val] (queryV (xL i j) (wqL i)) (slice_ok h)

/-- The unnormalised weights of one head in one row block. -/
def weightJ (i : In Ideal) (j : Fin 16) (h : Fin 8) : FVec Ideal S128x384 .bf16 :=
  weightV (queryJ i j h) (biasV (rowJ j)) (kL i j h)

variable {X W K} {c : Dev nD} {i : In Ideal} (S : Share X W K c i) (j : Fin 16) (h : Fin 8)

include S

theorem weightJ_at (r : Fin 128) (t : Fin 384) : weightJ i j h (ix2 r t)
      = (num X W K (headOf c h) (rowOf j r) ⟨t0 j + t.val, by have := t0_le j; omega⟩ : EReal) := by
  have ht := t0_le j
  have hc : c.val < 16 := c.isLt
  unfold weightJ
  rw [weightV_at, scale_named, biasV_at, mask_named, keyRow_eq]
  have hq : ∀ e : Fin 128, queryJ i j h (ix2 r e)
      = ((∑ m : Fin 1024, X (rowOf j r) m * W m ⟨(headOf c h).val * 128 + e.val, by have := (headOf c h).isLt; omega⟩ : ℝ) : EReal) := fun e => by
    unfold queryJ
    rw [slice_at, queryV_at, ← coe_dot]
    refine Finset.sum_congr rfl fun m _ => ?_
    rw [xL_at, wqL_at, S.x, S.wq]
    refine congrArg₂ (· * ·) rfl (congrArg (fun z => (W m z : EReal)) (Fin.ext ?_))
    show 1024 * c.val + (128 * h.val + e.val) = (8 * c.val + h.val) * 128 + e.val
    omega
  have hk : ∀ e : Fin 128, kL i j h (ix2 t e) = (K ⟨t0 j + t.val, by omega⟩ (headOf c h) e : EReal) := fun e => by
    rw [kL_at, S.k]
    refine congrArg₂ (fun y z => (K _ y z : EReal)) (Fin.ext ?_) (Fin.ext ?_)
    · show 8 * c.val + (128 * h.val + e.val) / 128 = 8 * c.val + h.val
      omega
    · show (128 * h.val + e.val) % 128 = e.val
      omega
  rw [Finset.sum_congr rfl (fun e _ => by rw [hq e, hk e]), coe_dot, ← EReal.coe_mul]
  have hn : IntOp.cmpi .sle (IntOp.absi (IntOp.subi (IntOp.addi (rowJ j) (BitVec.ofNat 32 r.val)) (IntOp.addi (BitVec.ofNat 32 (t0 j)) (BitVec.ofNat 32 t.val)))) 128#32
      = if Near (rowOf j r).val (t0 j + t.val) then 1#1 else 0#1 := by
    have e1 : IntOp.addi (rowJ j) (BitVec.ofNat 32 r.val) = BitVec.ofNat 32 (rowOf j r).val := (BitVec.ofNat_add ..).symm
    have e2 : IntOp.addi (BitVec.ofNat 32 (t0 j)) (BitVec.ofNat 32 t.val) = BitVec.ofNat 32 (t0 j + t.val) := (BitVec.ofNat_add ..).symm
    rw [e1, e2]
    exact near_word _ _ (by have := (rowOf j r).isLt; omega) (by omega)
  rw [hn]
  unfold num expo
  by_cases hN : Near (rowOf j r).val (t0 j + t.val)
  · rw [if_pos hN, if_pos hN]
    show Ideal.exp (_ + (0 : EReal)) = _
    rw [add_zero, Ideal.exp_coe]
    rfl
  · rw [if_neg hN, if_neg hN]
    show Ideal.exp (_ + (⊥ : EReal)) = _
    rw [EReal.add_bot, Ideal.exp_bot, EReal.coe_zero]

theorem headJ_at (r d : Fin 128) : headJ i j h (ix2 r d)
    = ∑ t : Fin 2048, i.v (ix2 t ⟨128 * h.val + d.val, by omega⟩) * (prob X W K (headOf c h) (rowOf j r) t : EReal) := by
  have ht := t0_le j
  have hout : ∀ k : Fin 2048, k.val < t0 j ∨ t0 j + 384 ≤ k.val → num X W K (headOf c h) (rowOf j r) k = 0 := fun k hk => by
    refine if_neg fun hN => ?_
    obtain ⟨h1, h2⟩ := hN
    change 128 * j.val + r.val ≤ k.val + 128 at h1
    change k.val ≤ 128 * j.val + r.val + 128 at h2
    unfold t0 at hk
    omega
  have e : headJ i j h (ix2 r d) = (∑ t : Fin 384, weightJ i j h (ix2 r t) * vL i j h (ix2 t d)) * Ideal.div 1 (∑ t : Fin 384, weightJ i j h (ix2 r t)) :=
    headV_at _ _ _ _ r d
  rw [e]
  rw [Finset.sum_congr rfl (fun t _ => by rw [weightJ_at S j h r t, vL_at]),
    Finset.sum_congr (s₁ := (Finset.univ : Finset (Fin 384))) rfl (fun t _ => weightJ_at S j h r t)]
  rw [band (t0 j) ht (fun k : Fin 2048 => (num X W K (headOf c h) (rowOf j r) k : EReal) * i.v (ix2 k ⟨128 * h.val + d.val, by omega⟩))
      (fun k hk => by rw [hout k hk, EReal.coe_zero, zero_mul]),
    band (t0 j) ht (fun k : Fin 2048 => (num X W K (headOf c h) (rowOf j r) k : EReal)) (fun k hk => by rw [hout k hk, EReal.coe_zero])]
  exact context _ _ (near_self (rowOf j r)) _

end Cert.KernelIdeal.Ring
-- ==== Proof.RingSum.lean ====
/- What the ring leaves: the row blocks of all the devices, added up. -/
module

public import proofs.«01_k».proof.Proof.KernelAt
public import proofs.«01_k».proof.Proof.Blocks

@[expose] public section

noncomputable section

namespace Cert.KernelIdeal.Ring

open Cert.KernelIdeal Cert.KernelIdeal.Gen Idealize.ShloMosaic Idealize.ShloMosaic.TcCoe Idealize.SL.Sem

variable (I : Dev nD → In Ideal)

theorem addV_at (p q : FVec Ideal S128x1024 .bf16) (r : Fin 128) (n : Fin 1024) :
    addV p (slotV q) (ix2 r n) = p (ix2 r n) + q (ix2 r n) := by
  pointwise [addV, slotV]

theorem left_val : ∀ c : Dev nD, (left c).val = (c.val + 15) % 16 := by decide +kernel

/-- The device `m` places before `c`. -/
def before (c : Dev nD) (m : ℕ) : Dev nD := ⟨(c.val + 16 - m) % 16, Nat.mod_lt _ (by decide)⟩

theorem before_left (c : Dev nD) (m : ℕ) (h : m ≤ 14) : before (left c) m = before c (m + 1) := by
  refine Fin.ext ?_
  show ((left c).val + 16 - m) % 16 = (c.val + 16 - (m + 1)) % 16
  rw [left_val]
  have : c.val < 16 := c.isLt
  omega

theorem jW_left (c : Dev nD) (n : ℕ) (h : n ≤ 14) : jW (left c) n = jW c (n + 1) := before_left c n h

/-- A running sum is the sum of one row block over the devices it has passed. -/
theorem rsV_at (n : ℕ) (hn : n ≤ 15) (c : Dev nD) (r : Fin 128) (a : Fin 1024) :
    rsV I n c (ix2 r a) = ∑ m ∈ Finset.range (n + 1), blkJ (I (before c m)) (jW c n) (ix2 r a) := by
  induction n generalizing c with
  | zero =>
      rw [Finset.sum_range_one]
      have : before c 0 = c := by
        refine Fin.ext ?_
        show (c.val + 16 - 0) % 16 = c.val
        have : c.val < 16 := c.isLt
        omega
      rw [this]
      rfl
  | succ n ih =>
      show addV (blkJ (I c) (jW c (n + 1))) (slotV (rsV I n (left c))) (ix2 r a) = _
      rw [addV_at, ih (by omega), Finset.sum_range_succ' _ (n + 1), add_comm]
      have : before c 0 = c := by
        refine Fin.ext ?_
        show (c.val + 16 - 0) % 16 = c.val
        have : c.val < 16 := c.isLt
        omega
      rw [this]
      refine congrArg (fun z : EReal => z + blkJ (I c) (jW c (n + 1)) (ix2 r a)) (Finset.sum_congr rfl fun m hm => ?_)
      rw [Finset.mem_range] at hm
      rw [before_left c m (by omega), jW_left c n (by omega)]

/-- The finished row block is the sum over all devices. -/
theorem fin_at (j : Fin 16) (r : Fin 128) (a : Fin 1024) :
    fin I j (ix2 r a) = ∑ c : Dev nD, blkJ (I c) j (ix2 r a) := by
  have hj : ∀ j : Fin 16, jW (⟨(j.val + 15) % 16, Nat.mod_lt _ (by decide)⟩ : Dev nD) 15 = j := by decide +kernel
  have h := rsV_at I 15 le_rfl (⟨(j.val + 15) % 16, Nat.mod_lt _ (by decide)⟩ : Dev nD) r a
  rw [hj j, Finset.sum_range] at h
  refine h.trans ?_
  have hb : Function.Bijective (fun m : Fin 16 => before (⟨(j.val + 15) % 16, Nat.mod_lt _ (by decide)⟩ : Dev nD) m.val) := by
    refine (Finite.injective_iff_bijective (α := Fin 16)).1 fun m m' e => ?_
    have e := congrArg Fin.val e
    change ((j.val + 15) % 16 + 16 - m.val) % 16 = ((j.val + 15) % 16 + 16 - m'.val) % 16 at e
    exact Fin.ext (by omega)
  exact hb.sum_comp fun c => blkJ (I c) j (ix2 r a)

/-- The result of the call at an index. -/
theorem outV_at (j : Fin 16) (r : Fin 128) (n : Fin 1024) :
    outV I (ix2 ⟨128 * j.val + r.val, by omega⟩ n) = ∑ c : Dev nD, blkJ (I c) j (ix2 r n) := by
  rw [← fin_at, ← outV_block]
  refine congrArg (outV I) (funext fun q => Fin.ext ?_)
  fin_cases q
  · show 128 * j.val + r.val = 128 * j.val + 1 * r.val
    omega
  · show n.val = 0 + 1 * n.val
    omega

end Cert.KernelIdeal.Ring
-- ==== Proof.Inputs.lean ====
/- What each device's kernel is given, in terms of the program's arguments: the host takes the leading axis
   of one off `x` and cuts the device's eight heads out of the keys and the values. -/
module

public import proofs.«01_k».proof.Proof.Region
public import Idealize.ShloMosaic.Lib.Pointwise
public import Idealize.ShloMosaic.Lib.IdealHost
public import Idealize.ShloMosaic.Lib.StableHlo.ReadAt

@[expose] public section

noncomputable section

namespace Cert.KernelIdeal.Ring

open Cert.KernelIdeal Cert.KernelIdeal.Gen Idealize.ShloMosaic Idealize.ShloMosaic.TcCoe Idealize.SL.Sem

variable (m : (ℓ : Loc nD τ sig) → Buf (Elt Ideal) ℓ) (c : Dev nD)

theorem inp_wq : (inp m c).wq = m ((c.tc : Thread nD τ).loc main_arg1) := V1_of m c main_arg1 (by decide +kernel)
theorem inp_wo : (inp m c).wo = m ((c.tc : Thread nD τ).loc main_arg4) := V1_of m c main_arg4 (by decide +kernel)
theorem inp_x_at (i : Fin 2048) (a : Fin 1024) : (inp m c).x (ix2 i a) = m ((c.tc : Thread nD τ).loc main_arg0) (ix3 0 i a) := by
  show StableHlo.after (hostOps0 c) (V0 m c) (Proc.devRef .tc main_v5) (ix2 i a) = _
  after_reads_at

/-- The word the host computes for the first of a device's heads. -/
def headWord (c : Dev nD) : BitVec 32 :=
  let h := IntOp.muli (IntOp.remui .host (IntOp.divui .host (Dev.word c) 1#32) 16#32) 8#32
  Scalar.select (IntOp.cmpi .slt h 0#32) (IntOp.addi h 128#32) h
theorem headWord_val (c : Dev nD) : (min (max (BitVec.toInt (headWord c)) 0) 120).toNat = 8 * c.val := by
  revert c; decide +kernel

theorem k_zero : StableHlo.upto (hostOps0 c) (V0 m c) 17 (Proc.devRef .tc main_c_4) = constantI S_ 32 0#32 := by
  after_reads_simp
theorem k_zero' : StableHlo.upto (hostOps0 c) (V0 m c) 17 (Proc.devRef .tc main_c_5) = constantI S_ 32 0#32 := by
  after_reads_simp
/-- The first of the device's heads, as the host computes it for the array. -/
theorem k_head : StableHlo.upto (hostOps0 c) (V0 m c) 17 (Proc.devRef .tc main_v10) = constantI S_ 32 (headWord c) := by
  after_reads_simp
  rfl
theorem inp_k_at (i : Fin 2048) (a : Fin 1024) : (inp m c).k (ix2 i a)
    = m ((c.tc : Thread nD τ).loc main_arg2) (ix4 0 i ⟨8 * c.val + a.val / 128, by have : c.val < 16 := c.isLt; omega⟩ ⟨a.val % 128, by omega⟩) := by
  show StableHlo.after (hostOps0 c) (V0 m c) (Proc.devRef .tc main_v18) (ix2 i a) = _
  after_reads_at
  refine congrArg (m ((c.tc : Thread nD τ).loc main_arg2)) (funext fun q => Fin.ext ?_)
  match q with
  | 0 => rfl
  | 1 =>
    show (min (max (BitVec.toInt (StableHlo.upto (hostOps0 c) (V0 m c) 17 (Proc.devRef .tc main_c_4) (Shape.Idx.first h_S_))) 0) 0).toNat + i.val = i.val
    rw [k_zero]
    show 0 + i.val = i.val
    omega
  | 2 =>
    show (min (max (BitVec.toInt (StableHlo.upto (hostOps0 c) (V0 m c) 17 (Proc.devRef .tc main_v10) (Shape.Idx.first h_S_))) 0) 120).toNat + a.val / 128 = 8 * c.val + a.val / 128
    rw [k_head]
    show (min (max (BitVec.toInt (headWord c)) 0) 120).toNat + a.val / 128 = _
    rw [headWord_val]
  | 3 =>
    show (min (max (BitVec.toInt (StableHlo.upto (hostOps0 c) (V0 m c) 17 (Proc.devRef .tc main_c_5) (Shape.Idx.first h_S_))) 0) 0).toNat + a.val % 128 = a.val % 128
    rw [k_zero']
    show 0 + a.val % 128 = a.val % 128
    omega

theorem v_zero : StableHlo.upto (hostOps0 c) (V0 m c) 28 (Proc.devRef .tc main_c_9) = constantI S_ 32 0#32 := by
  after_reads_simp
theorem v_zero' : StableHlo.upto (hostOps0 c) (V0 m c) 28 (Proc.devRef .tc main_c_10) = constantI S_ 32 0#32 := by
  after_reads_simp
/-- The first of the device's heads, as the host computes it for the array. -/
theorem v_head : StableHlo.upto (hostOps0 c) (V0 m c) 28 (Proc.devRef .tc main_v16) = constantI S_ 32 (headWord c) := by
  after_reads_simp
  rfl
theorem inp_v_at (i : Fin 2048) (a : Fin 1024) : (inp m c).v (ix2 i a)
    = m ((c.tc : Thread nD τ).loc main_arg3) (ix4 0 i ⟨8 * c.val + a.val / 128, by have : c.val < 16 := c.isLt; omega⟩ ⟨a.val % 128, by omega⟩) := by
  show StableHlo.after (hostOps0 c) (V0 m c) (Proc.devRef .tc main_v19) (ix2 i a) = _
  after_reads_at
  refine congrArg (m ((c.tc : Thread nD τ).loc main_arg3)) (funext fun q => Fin.ext ?_)
  match q with
  | 0 => rfl
  | 1 =>
    show (min (max (BitVec.toInt (StableHlo.upto (hostOps0 c) (V0 m c) 28 (Proc.devRef .tc main_c_9) (Shape.Idx.first h_S_))) 0) 0).toNat + i.val = i.val
    rw [v_zero]
    show 0 + i.val = i.val
    omega
  | 2 =>
    show (min (max (BitVec.toInt (StableHlo.upto (hostOps0 c) (V0 m c) 28 (Proc.devRef .tc main_v16) (Shape.Idx.first h_S_))) 0) 120).toNat + a.val / 128 = 8 * c.val + a.val / 128
    rw [v_head]
    show (min (max (BitVec.toInt (headWord c)) 0) 120).toNat + a.val / 128 = _
    rw [headWord_val]
  | 3 =>
    show (min (max (BitVec.toInt (StableHlo.upto (hostOps0 c) (V0 m c) 28 (Proc.devRef .tc main_c_10) (Shape.Idx.first h_S_))) 0) 0).toNat + a.val % 128 = a.val % 128
    rw [v_zero']
    show 0 + a.val % 128 = a.val % 128
    omega

end Cert.KernelIdeal.Ring
-- ==== Proof.RefAt.lean ====
module

public import proofs.«01_k».proof.Proof.Gen.ReferenceIdeal.Run
public import Idealize.ShloMosaic.Lib.Pointwise
public import Idealize.ShloMosaic.Lib.IdealHost

@[expose] public section

noncomputable section

namespace Cert.ReferenceIdeal.At

open Cert.ReferenceIdeal Cert.ReferenceIdeal.Gen Idealize.ShloMosaic Idealize.ShloMosaic.TcCoe Idealize.SL.Sem

variable (x : FVec Ideal S1x2048x1024 .bf16) (wq : FVec Ideal S1024x16384 .bf16) (k v : FVec Ideal S1x2048x128x128 .bf16)
  (wo : FVec Ideal S16384x1024 .bf16)

/-- The window, query row by key row. -/
def near : IVec S2048x2048 1 :=
  cmpi .sle (absi (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (broadcastInDim S2048x2048 ![] bcast_S_S2048x2048 (constantI S_ 32 128#32))

/-- The rows with a key in their window. -/
def keep : IVec S2048 1 :=
  Host.reduce IntOp.ori near (constantI S_ 1 0#1) reducesTo_S2048x2048_S2048_d1 h_S_

/-- The queries, by head. -/
def query : FVec Ideal S1x2048x128x128 .f32 :=
  shapeCast _ (extf .f32 (truncf .bf16 (Host.dotGeneral dot_S1x2048x1024_S1024x16384_S1x2048x16384_2_0_01_1_n_n none (extf .f32 x bitsLt_bf16_f32) (extf .f32 wq bitsLt_bf16_f32)) bitsLt_bf16_f32) bitsLt_bf16_f32) shapeCasts_S1x2048x16384_S1x2048x128x128

/-- The scores, minus infinity outside the window. -/
def score : FVec Ideal S1x128x2048x2048 .f32 :=
  select (broadcastInDim S1x128x2048x2048 ![0, 1, 2, 3] bcast_S1x1x2048x2048_S1x128x2048x2048_0_1_2_3 (broadcastInDim S1x1x2048x2048 ![2, 3] bcast_S2048x2048_S1x1x2048x2048_2_3 near))
    (Host.divf (extf .f32 (truncf .bf16 (Host.dotGeneral dot_S1x2048x128x128_S1x2048x128x128_S1x128x2048x2048_3_3_1_1_02_02 none (query x wq) (extf .f32 k bitsLt_bf16_f32)) bitsLt_bf16_f32) bitsLt_bf16_f32) (broadcastInDim S1x128x2048x2048 ![] bcast_S_S1x128x2048x2048 (Host.sqrt (constant S_ .f32 0x43000000#32))))
    (broadcastInDim S1x128x2048x2048 ![] bcast_S_S1x128x2048x2048 (constant S_ .f32 0xFF800000#32))

/-- A row's largest score. -/
def top : FVec Ideal S1x128x2048 .f32 :=
  Host.reduce FloatOps.maximumf (score x wq k) (constant S_ .f32 0xFF800000#32) reducesTo_S1x128x2048x2048_S1x128x2048_d3 h_S_

/-- The exponentials of the scores less their row's largest. -/
def expo : FVec Ideal S1x128x2048x2048 .f32 :=
  Host.exp (subf (score x wq k) (broadcastInDim S1x128x2048x2048 ![0, 1, 2, 3] bcast_S1x128x2048x1_S1x128x2048x2048_0_1_2_3 (broadcastInDim S1x128x2048x1 ![0, 1, 2] bcast_S1x128x2048_S1x128x2048x1_0_1_2 (top x wq k))))

/-- The sum a row's exponentials are divided by. -/
def total : FVec Ideal S1x128x2048x1 .f32 :=
  select (broadcastInDim S1x128x2048x1 ![0, 1, 2, 3] bcast_S1x1x2048x1_S1x128x2048x1_0_1_2_3 (broadcastInDim S1x1x2048x1 ![2] bcast_S2048_S1x1x2048x1_2 keep))
    (broadcastInDim S1x128x2048x1 ![0, 1, 2] bcast_S1x128x2048_S1x128x2048x1_0_1_2 (Host.reduceAdd (expo x wq k) (constant S_ .f32 0x00000000#32) reducesTo_S1x128x2048x2048_S1x128x2048_d3 h_S_))
    (broadcastInDim S1x128x2048x1 ![] bcast_S_S1x128x2048x1 (constant S_ .f32 0x3F800000#32))

/-- A row's exponentials over their sum, zero in a row that is not kept. -/
def share (p : IVec S2048 1) (e : FVec Ideal S1x128x2048x2048 .f32) (l : FVec Ideal S1x128x2048x1 .f32) : FVec Ideal S1x128x2048x2048 .f32 :=
  select (broadcastInDim S1x128x2048x2048 ![0, 1, 2, 3] bcast_S1x1x2048x1_S1x128x2048x2048_0_1_2_3 (broadcastInDim S1x1x2048x1 ![2] bcast_S2048_S1x1x2048x1_2 p))
    (Host.divf e (broadcastInDim S1x128x2048x2048 ![0, 1, 2, 3] bcast_S1x128x2048x1_S1x128x2048x2048_0_1_2_3 l))
    (broadcastInDim S1x128x2048x2048 ![] bcast_S_S1x128x2048x2048 (constant S_ .f32 0x00000000#32))

/-- The attention weights. -/
def weight : FVec Ideal S1x128x2048x2048 .f32 := share keep (expo x wq k) (total x wq k)

/-- The result. -/
def out : FVec Ideal S1x2048x1024 .bf16 :=
  truncf .bf16 (Host.dotGeneral dot_S1x2048x16384_S16384x1024_S1x2048x1024_2_0_01_1_n_n none
    (shapeCast _ (transpose S1x2048x128x128 [0, 3, 1, 2] (Host.dotGeneral dot_S1x2048x128x128_S1x128x2048x2048_S1x128x128x2048_1_3_3_2_02_01 none (extf .f32 v bitsLt_bf16_f32) (weight x wq k)) transposes_S1x128x128x2048_S1x2048x128x128_0_3_1_2) shapeCasts_S1x2048x128x128_S1x2048x16384)
    (extf .f32 wo bitsLt_bf16_f32)) bitsLt_bf16_f32

theorem res_eq (m : (ℓ : Loc nD τ sig) → Buf (Elt Ideal) ℓ) (c : Dev nD) :
    Value.res_out0 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

theorem near_at (i t : Fin 2048) : near (ix2 i t) = IntOp.cmpi .sle (IntOp.absi (IntOp.subi (BitVec.ofNat 32 i.val) (BitVec.ofNat 32 t.val))) 128#32 := by
  pointwise [near]

theorem keep_at (i : Fin 2048) : keep (ix1 i) = Finset.fold IntOp.ori (0#1) (fun t => near (ix2 i t)) Finset.univ := by
  pointwise [keep]

theorem query_at (i : Fin 2048) (h d : Fin 128) : query x wq (ix4 0 i h d)
    = ∑ a : Fin 1024, x (ix3 0 i a) * wq (ix2 a ⟨h.val * 128 + d.val, by omega⟩) := by
  pointwise [query]

theorem score_at (h : Fin 128) (i t : Fin 2048) : score x wq k (ix4 0 h i t)
    = Scalar.select (near (ix2 i t))
      (Ideal.div (∑ d : Fin 128, query x wq (ix4 0 i h d) * k (ix4 0 t h d)) (Ideal.sqrt (Ideal.ofBits FTy.f32 0x43000000#32)))
      (Ideal.ofBits .f32 0xFF800000#32) := by
  pointwise [score]

theorem top_at (h : Fin 128) (i : Fin 2048) : top x wq k (ix3 0 h i)
    = Finset.fold max (Ideal.ofBits FTy.f32 0xFF800000#32) (fun t => score x wq k (ix4 0 h i t)) Finset.univ := by
  pointwise [top]

theorem expo_at (h : Fin 128) (i t : Fin 2048) : expo x wq k (ix4 0 h i t)
    = Ideal.exp (score x wq k (ix4 0 h i t) - top x wq k (ix3 0 h i)) := by
  pointwise [expo]

theorem total_at (h : Fin 128) (i : Fin 2048) : total x wq k (ix4 0 h i 0)
    = Scalar.select (keep (ix1 i)) (∑ t, expo x wq k (ix4 0 h i t)) 1 := by
  pointwise [total]

theorem share_at (p : IVec S2048 1) (e : FVec Ideal S1x128x2048x2048 .f32) (l : FVec Ideal S1x128x2048x1 .f32) (h : Fin 128) (i t : Fin 2048) :
    share p e l (ix4 0 h i t) = Scalar.select (p (ix1 i)) (Ideal.div (e (ix4 0 h i t)) (l (ix4 0 h i 0))) 0 := by
  pointwise [share]

theorem weight_at (h : Fin 128) (i t : Fin 2048) : weight x wq k (ix4 0 h i t)
    = Scalar.select (keep (ix1 i)) (Ideal.div (expo x wq k (ix4 0 h i t)) (total x wq k (ix4 0 h i 0))) 0 :=
  share_at keep (expo x wq k) (total x wq k) h i t

theorem out_at (i : Fin 2048) (n : Fin 1024) : out x wq k v wo (ix3 0 i n)
    = ∑ a : Fin 16384, (∑ t : Fin 2048, v (ix4 0 t ⟨a.val / 128, by omega⟩ ⟨a.val % 128, by omega⟩)
        * weight x wq k (ix4 0 ⟨a.val / 128, by omega⟩ i t)) * wo (ix2 a n) := by
  pointwise [out]

end Cert.ReferenceIdeal.At
-- ==== Proof.RefValue.lean ====
/- The reference's attention weights, over the reals. -/
module

public import proofs.«01_k».proof.Proof.RefAt
public import proofs.«01_k».proof.Proof.Math

@[expose] public section

noncomputable section

namespace Cert.ReferenceIdeal.At

open Cert.ReferenceIdeal Cert.ReferenceIdeal.Gen Idealize.ShloMosaic Idealize.ShloMosaic.TcCoe Idealize.SL.Sem Cert.Attn

theorem near_eq (i t : Fin 2048) : near (ix2 i t) = if Near i.val t.val then 1#1 else 0#1 := by
  rw [near_at]
  exact near_word _ _ (by omega) (by omega)

/-- A disjunction of bits is set where one of them is. -/
theorem fold_ori (f : Fin 2048 → BitVec 1) (i : Fin 2048) (h : f i = 1#1) : Finset.fold IntOp.ori (0#1) f Finset.univ = 1#1 := by
  have e : Finset.fold IntOp.ori (0#1) f Finset.univ = IntOp.ori (f i) (Finset.fold IntOp.ori (0#1) f (Finset.univ.erase i)) := by
    conv_lhs => rw [← Finset.insert_erase (Finset.mem_univ i)]
    exact Finset.fold_insert (Finset.notMem_erase i _)
  rw [e, h]
  generalize Finset.fold IntOp.ori (0#1) f (Finset.univ.erase i) = y
  revert y; decide

/-- Every row has a key in its window: its own. -/
theorem keep_eq (i : Fin 2048) : keep (ix1 i) = 1#1 := by
  rw [keep_at]
  exact fold_ori _ i (by rw [near_eq, if_pos (near_self i)])

theorem root : Ideal.sqrt (Ideal.ofBits FTy.f32 0x43000000#32) = ((Real.sqrt 128 : ℝ) : EReal) := by
  have h : Ideal.ofBits FTy.f32 0x43000000#32 = ((128 : ℝ) : EReal) := by
    simp [Ideal.ofBits, Ideal.ieee]
    rw [← EReal.coe_mul]
    norm_num
  rw [h, Ideal.sqrt_coe, if_neg (by norm_num)]

theorem minus_inf : Ideal.ofBits FTy.f32 0xFF800000#32 = (⊥ : EReal) := by
  simp [Ideal.ofBits, Ideal.ieee]

variable (X : Fin 2048 → Fin 1024 → ℝ) (W : Fin 1024 → Fin 16384 → ℝ) (K : Fin 2048 → Fin 128 → Fin 128 → ℝ)
variable {x : FVec Ideal S1x2048x1024 .bf16} {wq : FVec Ideal S1024x16384 .bf16} {k : FVec Ideal S1x2048x128x128 .bf16}

/-- The reference's operands are real arrays. -/
structure Real3 (x : FVec Ideal S1x2048x1024 .bf16) (wq : FVec Ideal S1024x16384 .bf16) (k : FVec Ideal S1x2048x128x128 .bf16) : Prop where
  x : ∀ p m, x (ix3 0 p m) = (X p m : EReal)
  wq : ∀ m a, wq (ix2 m a) = (W m a : EReal)
  k : ∀ t A e, k (ix4 0 t A e) = (K t A e : EReal)

variable {X W K} (S : Real3 X W K x wq k)

include S

theorem score_eq (A : Fin 128) (i t : Fin 2048) : score x wq k (ix4 0 A i t)
    = masked (fun t : Fin 2048 => Near i.val t.val) (Attn.score X W K A i) t := by
  have hq : ∀ e : Fin 128, query x wq (ix4 0 i A e)
      = ((∑ m : Fin 1024, X i m * W m ⟨A.val * 128 + e.val, by omega⟩ : ℝ) : EReal) := fun e => by
    rw [query_at, ← coe_dot]
    exact Finset.sum_congr rfl fun m _ => by rw [S.x, S.wq]
  rw [score_at, near_eq, root, minus_inf, Finset.sum_congr rfl (fun e _ => by rw [hq e, S.k]), coe_dot,
    Ideal.div_coe (Real.sqrt_pos.2 (by norm_num)).ne', ← EReal.coe_mul, one_div]
  unfold masked
  by_cases hN : Near i.val t.val
  · rw [if_pos hN, if_pos hN]; rfl
  · rw [if_neg hN, if_neg hN]; rfl

theorem weight_eq (A : Fin 128) (i t : Fin 2048) : weight x wq k (ix4 0 A i t) = (prob X W K A i t : EReal) := by
  rw [weight_at, keep_eq, total_at, keep_eq]
  show Ideal.div (expo x wq k (ix4 0 A i t)) (∑ t, expo x wq k (ix4 0 A i t)) = _
  rw [Finset.sum_congr rfl (fun t _ => expo_at x wq k A i t), expo_at, top_at, minus_inf]
  simp only [score_eq S]
  exact Attn.share (fun t : Fin 2048 => Near i.val t.val) (Attn.score X W K A i) (near_self i) t

end Cert.ReferenceIdeal.At
-- ==== Proof.Value.lean ====
/- The value the kernel leaves on every device is the reference's. -/
module

public import proofs.«01_k».proof.Proof.HeadAt
public import proofs.«01_k».proof.Proof.RingSum
public import proofs.«01_k».proof.Proof.Inputs
public import proofs.«01_k».proof.Proof.RefValue
public import proofs.«01_k».proof.Proof.Launch
public import Idealize.ShloMosaic.Lib.LayoutAt

@[expose] public section

noncomputable section

namespace Cert.KernelIdeal.Ring

open Cert.KernelIdeal Cert.KernelIdeal.Gen Idealize.ShloMosaic Idealize.ShloMosaic.TcCoe Idealize.SL.Sem Cert.Attn

variable {X : Fin 2048 → Fin 1024 → ℝ} {W : Fin 1024 → Fin 16384 → ℝ} {K : Fin 2048 → Fin 128 → Fin 128 → ℝ}
variable (I : Dev nD → In Ideal) (V : Fin 2048 → Fin 128 → Fin 128 → EReal) (O : Fin 16384 → Fin 1024 → EReal)

/-- What the kernel leaves, from shares of whole arrays: every head's context times its rows of `Wo`. -/
theorem value (S : ∀ c, Share X W K c (I c))
    (hv : ∀ c t a, (I c).v (ix2 t a) = V t ⟨8 * c.val + a.val / 128, by have : c.val < 16 := c.isLt; omega⟩ ⟨a.val % 128, by omega⟩)
    (ho : ∀ c a n, (I c).wo (ix2 a n) = O ⟨1024 * c.val + a.val, by have : c.val < 16 := c.isLt; omega⟩ n)
    (i : Fin 2048) (n : Fin 1024) :
    outV I (ix2 i n) = ∑ a : Fin 16384, (∑ t : Fin 2048, V t ⟨a.val / 128, by omega⟩ ⟨a.val % 128, by omega⟩
      * (prob X W K ⟨a.val / 128, by omega⟩ i t : EReal)) * O a n := by
  have hi := i.isLt
  let j : Fin 16 := ⟨i.val / 128, by omega⟩
  let r : Fin 128 := ⟨i.val % 128, by omega⟩
  have e : i = rowOf j r := Fin.ext (by show i.val = 128 * (i.val / 128) + i.val % 128; omega)
  clear_value j r
  subst e
  refine (outV_at I j r n).trans ?_
  rw [Fin.sum_univ_tiles 16 1024 rfl]
  refine Finset.sum_congr rfl fun c _ => ?_
  have hc : c.val < 16 := c.isLt
  rw [blkJ_at, Fin.sum_univ_tiles 8 128 rfl]
  refine Finset.sum_congr rfl fun h _ => Finset.sum_congr rfl fun d _ => ?_
  have hh := h.isLt
  have hd := d.isLt
  rw [headJ_at (S c), ho]
  have e1 : ∀ p, (⟨(c.val * 1024 + (h.val * 128 + d.val)) / 128, p⟩ : Fin 128) = headOf c h := fun p => Fin.ext (by
    show (c.val * 1024 + (h.val * 128 + d.val)) / 128 = 8 * c.val + h.val; omega)
  have e2 : ∀ p, (⟨(c.val * 1024 + (h.val * 128 + d.val)) % 128, p⟩ : Fin 128) = d := fun p => Fin.ext (by
    show (c.val * 1024 + (h.val * 128 + d.val)) % 128 = d.val; omega)
  refine congrArg₂ (· * ·) (Finset.sum_congr rfl fun t _ => ?_) (congrArg (fun z => O z n) (Fin.ext ?_))
  · rw [hv, e1, e2]
    refine congrArg₂ (· * ·) (congrArg₂ (V t) (Fin.ext ?_) (Fin.ext ?_)) rfl
    · show 8 * c.val + (128 * h.val + d.val) / 128 = 8 * c.val + h.val
      omega
    · show (128 * h.val + d.val) % 128 = d.val
      omega
  · show 1024 * c.val + (h.val * 128 + d.val) = c.val * 1024 + (h.val * 128 + d.val)
    omega

/-- The program's result on a device: the call's result with a leading axis of one. -/
theorem result_at (m : (ℓ : Loc nD τ sig) → Buf (Elt Ideal) ℓ) (c : Dev nD) (i : Fin 2048) (n : Fin 1024) :
    V3 m (outs m) c main_v21 (ix3 0 i n) = outV (inp m) (ix2 i n) := by
  rw [← V2_res m c]
  show StableHlo.after hostOps1 (V2 m (outs m) c) (Proc.devRef .tc main_v21) (ix3 0 i n) = _
  after_reads_at

end Cert.KernelIdeal.Ring
-- ==== Proof.Finite.lean ====
/- The precondition: every entry of `x`, of the device's share of `Wq` and of the keys is a real number. -/
module

public import proofs.«01_k».proof.Pre_finite_KernelIdeal
public import proofs.«01_k».proof.Pre_finite_ReferenceIdeal
public import Idealize.ShloMosaic.Lib.Pointwise
public import Idealize.ShloMosaic.Lib.IdealHost
public import Idealize.ShloMosaic.Lib.ReduceAll

@[expose] public section

noncomputable section

namespace Cert.Finite

open Idealize.ShloMosaic

theorem factsK : Cert.Pre_finite_KernelIdeal.Facts where
  bitsLt_bf16_f32 := by decide
  bcast_S_S1x2048x1024 := by decide
  reducesTo_S1x2048x1024_S_d0_1_2 := by decide
  h_S_ := by decide
  bcast_S_S1024x1024 := by decide
  reducesTo_S1024x1024_S_d0_1 := by decide
  bcast_S_S1x2048x128x128 := by decide
  reducesTo_S1x2048x128x128_S_d0_1_2_3 := by decide

theorem factsR : Cert.Pre_finite_ReferenceIdeal.Facts where
  bitsLt_bf16_f32 := by decide
  bcast_S_S1x2048x1024 := by decide
  reducesTo_S1x2048x1024_S_d0_1_2 := by decide
  h_S_ := by decide
  bcast_S_S1024x16384 := by decide
  reducesTo_S1024x16384_S_d0_1 := by decide
  bcast_S_S1x2048x128x128 := by decide
  reducesTo_S1x2048x128x128_S_d0_1_2_3 := by decide

/-- The absolute value's bits below those of infinity: a real number. -/
theorem real_of (y : EReal) (h : FloatOps.cmpf (F := Ideal) (φ := .f32) .olt (FloatOps.absf (F := Ideal) (φ := .f32) y) (FloatOps.ofBits .f32 0x7F800000#32) = 1#1) :
    y = (y.toReal : EReal) := by
  have hinf : Ideal.ofBits .f32 0x7F800000#32 = (⊤ : EReal) := by simp [Ideal.ofBits, Ideal.ieee]
  have h' : Ideal.cmp .olt (max y (-y)) (Ideal.ofBits .f32 0x7F800000#32) = 1#1 := h
  rw [hinf] at h'
  induction y with
  | bot => simp [Ideal.cmp] at h'
  | top => simp [Ideal.cmp] at h'
  | coe r => rw [EReal.toReal_coe]

open Cert.Pre_finite_KernelIdeal in
theorem entries (x : FVec Ideal S1x2048x1024 .bf16) (wq : FVec Ideal S1024x1024 .bf16) (k v : FVec Ideal S1x2048x128x128 .bf16) (wo : FVec Ideal S1024x1024 .bf16)
    (h : @fn factsK Ideal _ x wq k v wo = fun _ => 1#1) :
    (∀ i, x i = ((x i).toReal : EReal)) ∧ (∀ i, wq i = ((wq i).toReal : EReal)) ∧ (∀ i, k i = ((k i).toReal : EReal)) := by
  have h0 := congrFun h (Shape.Idx.first factsK.h_S_)
  unfold fn at h0
  obtain ⟨h1, hk⟩ := IntOp.andi_eq_one.1 h0
  obtain ⟨hx, hw⟩ := IntOp.andi_eq_one.1 h1
  exact ⟨fun i => real_of _ (Host.reduce_andi_all _ _ _ _ _ hx i), fun i => real_of _ (Host.reduce_andi_all _ _ _ _ _ hw i),
    fun i => real_of _ (Host.reduce_andi_all _ _ _ _ _ hk i)⟩

end Cert.Finite
-- ==== Proof.Equal.lean ====
/- From the arguments as the claim places them to the two results: the kernel's result on each device and the
   reference's result are one array. -/
module

public import proofs.«01_k».proof.Proof.Value
public import proofs.«01_k».proof.Proof.Finite

@[expose] public section

noncomputable section

namespace Cert.Equal

open Idealize.ShloMosaic Idealize.ShloMosaic.TcCoe Idealize.SL.Sem Cert.Attn Cert.KernelIdeal Cert.KernelIdeal.Gen Cert.KernelIdeal.Ring

variable (x : FVec Ideal S1x2048x1024 .bf16) (wq : FVec Ideal ⟨2, ![1024, 16384]⟩ .bf16) (k v : FVec Ideal S1x2048x128x128 .bf16)
  (wo : FVec Ideal ⟨2, ![16384, 1024]⟩ .bf16)

/-- Column `a` of the whole `Wq` is column `a % 1024` of the share of device `a / 1024`. -/
theorem wq_block (c : Fin 16) (p a : Fin 1024) :
    Layout.block ⟨2, ![1024, 1024]⟩ ⟨2, ![1024, 16384]⟩ 1 16 c wq (by decide) (ix2 p a) = wq (ix2 p ⟨1024 * c.val + a.val, by omega⟩) := by
  refine congrArg wq (funext fun q => Fin.ext ?_)
  match q with
  | 0 => rfl
  | 1 =>
    show c.val * 1024 + a.val = 1024 * c.val + a.val
    omega
theorem wo_block (c : Fin 16) (a n : Fin 1024) :
    Layout.block ⟨2, ![1024, 1024]⟩ ⟨2, ![16384, 1024]⟩ 0 16 c wo (by decide) (ix2 a n) = wo (ix2 ⟨1024 * c.val + a.val, by omega⟩ n) := by
  refine congrArg wo (funext fun q => Fin.ext ?_)
  match q with
  | 0 =>
    show c.val * 1024 + a.val = 1024 * c.val + a.val
    omega
  | 1 => rfl

/-- An index of a result of one batch, by its row and column. -/
theorem eta (i : S1x2048x1024.Idx) : ∃ (a : Fin 2048) (b : Fin 1024), i = ix3 0 a b :=
  ⟨i 1, i 2, funext fun q => by
    match q with
    | 0 => exact Fin.ext (by have h : (i 0).val < 1 := (i 0).isLt; show (i 0).val = 0; omega)
    | 1 => rfl
    | 2 => rfl⟩

theorem result (m : (ℓ : Loc nD τ sig) → Buf (Elt Ideal) ℓ)
    (hpre : ∀ c : Dev nD, @Cert.Pre_finite_KernelIdeal.fn Cert.Finite.factsK Ideal _ (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1)
    (h0 : ∀ c : Dev nD, m ((c.tc : Thread nD τ).loc main_arg0) = x)
    (h1 : ∀ c : Dev nD, m ((c.tc : Thread nD τ).loc main_arg1) = Layout.block ⟨2, ![1024, 1024]⟩ ⟨2, ![1024, 16384]⟩ 1 16 c wq)
    (h2 : ∀ c : Dev nD, m ((c.tc : Thread nD τ).loc main_arg2) = k)
    (h3 : ∀ c : Dev nD, m ((c.tc : Thread nD τ).loc main_arg3) = v)
    (h4 : ∀ c : Dev nD, m ((c.tc : Thread nD τ).loc main_arg4) = Layout.block ⟨2, ![1024, 1024]⟩ ⟨2, ![16384, 1024]⟩ 0 16 c wo)
    (c : Dev nD) : V3 m (outs m) c (Proc.devRef .tc main_v21) = Cert.ReferenceIdeal.At.out x wq k v wo := by
  have hf := fun c => Cert.Finite.entries _ _ _ _ _ (hpre c)
  have hx : ∀ i, x i = ((x i).toReal : EReal) := fun i => by have := (hf 0).1 i; rwa [h0 0] at this
  have hk : ∀ i, k i = ((k i).toReal : EReal) := fun i => by have := (hf 0).2.2 i; rwa [h2 0] at this
  have hw : ∀ (p : Fin 1024) (a : Fin 16384), wq (ix2 p a) = ((wq (ix2 p a)).toReal : EReal) := fun p a => by
    have ha := a.isLt
    have := (hf (⟨a.val / 1024, by show a.val / 1024 < 16; omega⟩ : Fin 16)).2.1 (ix2 p ⟨a.val % 1024, by omega⟩)
    rw [h1, wq_block] at this
    have e : ∀ q, (⟨1024 * (a.val / 1024) + a.val % 1024, q⟩ : Fin 16384) = a := fun q => Fin.ext (by show 1024 * (a.val / 1024) + a.val % 1024 = a.val; omega)
    rwa [e] at this
  let X : Fin 2048 → Fin 1024 → ℝ := fun p q => (x (ix3 0 p q)).toReal
  let W : Fin 1024 → Fin 16384 → ℝ := fun p a => (wq (ix2 p a)).toReal
  let K : Fin 2048 → Fin 128 → Fin 128 → ℝ := fun t A e => (k (ix4 0 t A e)).toReal
  have S : ∀ c, Share X W K c (inp m c) := fun c =>
    { x := fun p q => by rw [inp_x_at, h0]; exact hx _
      wq := fun p a => by rw [inp_wq, h1, wq_block]; exact hw _ _
      k := fun t a => by rw [inp_k_at, h2]; exact hk _ }
  have R : Cert.ReferenceIdeal.At.Real3 X W K x wq k :=
    { x := fun p q => hx _
      wq := fun p a => hw _ _
      k := fun t A e => hk _ }
  funext i
  obtain ⟨a, b, rfl⟩ := eta i
  refine (result_at m c a b).trans ?_
  refine (Ring.value (inp m) (fun t A e => v (ix4 0 t A e)) (fun a n => wo (ix2 a n)) S
    (fun c t a => by rw [inp_v_at, h3]) (fun c a n => by rw [inp_wo, h4, wo_block]) a b).trans ?_
  rw [Cert.ReferenceIdeal.At.out_at]
  refine Finset.sum_congr rfl fun A _ => congrArg (fun z : EReal => z * wo (ix2 A b)) (Finset.sum_congr rfl fun t _ => ?_)
  rw [Cert.ReferenceIdeal.At.weight_eq R]

end Cert.Equal
-- ==== Proof.lean ====
module

public import proofs.«01_k».proof.Defs
public import proofs.«01_k».proof.Proof.Launch
public import proofs.«01_k».proof.Proof.Equal
public import proofs.«01_k».proof.Proof.Plain.Launch
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem frame_p : quiescent_Kernel (hKernel := Cert.Kernel.Gen.facts) := fun m g _ =>
  (θ_run _ _ _).mono (fun _ h => ⟨fun c => have hc := h.1 c; ⟨hc.1, hc.2.1, hc.2.2.1, hc.2.2.2.1, hc.2.2.2.2.1⟩, h.2⟩) (Cert.Kernel.Ring.run_main m g)

theorem frame_pi : quiescent_KernelIdeal (hKernelIdeal := Cert.KernelIdeal.Gen.facts) := fun m g _ =>
  (θ_run _ _ _).mono (fun _ h => ⟨fun c => have hc := h.1 c; ⟨hc.1, hc.2.1, hc.2.2.1, hc.2.2.2.1, hc.2.2.2.2.1⟩, h.2⟩) (Cert.KernelIdeal.Ring.run_main m g)

theorem frame_ri : quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

theorem preserves : preserves_Kernel_KernelIdeal :=
  ⟨IdealRules.named_const.statement _ _ _ _ _ rfl, IdealRules.named_const.statement _ _ _ _ _ rfl⟩

/-- Over the reals, every device's result is the reference's. -/
theorem algebraic : algebraic_KernelIdeal_ReferenceIdeal_pre_finite_KernelIdeal
    (hKernelIdeal := Cert.KernelIdeal.Gen.facts) (hReferenceIdeal := Cert.ReferenceIdeal.Gen.facts) (hPre_finite_KernelIdeal := Cert.Finite.factsK) :=
  fun m g m' g' hpre hin =>
    have hval := Cert.Equal.result _ _ _ _ _ m hpre (fun c => (hin c).1) (fun c => (hin c).2.1) (fun c => (hin c).2.2.1) (fun c => (hin c).2.2.2.1) (fun c => (hin c).2.2.2.2)
    ⟨Cert.ReferenceIdeal.Value.res_out0 m' 0,
      (θ_run _ _ _).mono (fun _ h c => have hc := h.1 c
        ⟨hc.2.2.2.2.2.trans ((hval c).trans (Cert.ReferenceIdeal.At.res_eq m' 0).symm), hc.1, hc.2.1, hc.2.2.1, hc.2.2.2.1, hc.2.2.2.2.1⟩) (Cert.KernelIdeal.Ring.run_main m g),
      (θ_run _ _ _).mono (fun _ h => h 0) (Cert.ReferenceIdeal.Value.run m' g')⟩

theorem claim : Cert.Claim :=
  ⟨Cert.Kernel.Gen.facts, Cert.KernelIdeal.Gen.facts, Cert.ReferenceIdeal.Gen.facts, Cert.Finite.factsK, Cert.Finite.factsR,
    frame_p, frame_pi, fun m g _ => frame_pi m g trivial, frame_ri, fun m g _ => frame_ri m g trivial, preserves, algebraic⟩

end Cert.Proof

end
